-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "loss_scale" .f32 0x35A3D70A#32 ((1 / 819200 : ℝ) : EReal)

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S32x768x32x32 : Shape := ⟨4, ![32, 768, 32, 32]⟩
abbrev S768x5 : Shape := ⟨2, ![768, 5]⟩
abbrev S5 : Shape := ⟨1, ![5]⟩
abbrev S5x768 : Shape := ⟨2, ![5, 768]⟩
abbrev S768 : Shape := ⟨1, ![768]⟩
abbrev S8 : Shape := ⟨1, ![8]⟩
abbrev S6 : Shape := ⟨1, ![6]⟩
abbrev S_ : Shape := ⟨0, ![]⟩

class Facts : Prop where
  bcast_S_S32x768x32x32 : S_.BroadcastsInDim S32x768x32x32 (![] : Fin 0 → Fin S32x768x32x32.rank)
  bcast_S_S768x5 : S_.BroadcastsInDim S768x5 (![] : Fin 0 → Fin S768x5.rank)
  bcast_S_S5 : S_.BroadcastsInDim S5 (![] : Fin 0 → Fin S5.rank)
  bcast_S_S6 : S_.BroadcastsInDim S6 (![] : Fin 0 → Fin S6.rank)

variable [Facts]

def fn {F : FTy → Type} [FloatOps F] (main_arg0 : FVec F S32x768x32x32 .f32) (main_arg1 : FVec F S768x5 .f32) (main_arg2 : FVec F S5 .f32) (main_arg3 : FVec F S5x768 .f32) (main_arg4 : FVec F S768 .f32) (main_arg5 : FVec F S8 .f32) (main_arg6 : FVec F S8 .f32) (main_arg7 : FVec F S8 .f32) (main_arg8 : FVec F S6 .f32) (main_arg9 : FVec F S5 .f32) : IVec S32x768x32x32 1 × IVec S768x5 1 × IVec S5 1 × IVec S6 1 × IVec S5 1 :=
  let main_v0 : FVec F S32x768x32x32 .f32 := Host.absf main_arg0
  let main_cst : FVec F S_ .f32 := constant S_ .f32 0x551184E7#32
  let main_v1 : FVec F S32x768x32x32 .f32 := broadcastInDim S32x768x32x32 ![] bcast_S_S32x768x32x32 main_cst
  let main_v2 : IVec S32x768x32x32 1 := cmpf .ole main_v0 main_v1
  let main_v3 : FVec F S768x5 .f32 := Host.absf main_arg1
  let main_cst_0 : FVec F S_ .f32 := constant S_ .f32 0x551184E7#32
  let main_v4 : FVec F S768x5 .f32 := broadcastInDim S768x5 ![] bcast_S_S768x5 main_cst_0
  let main_v5 : IVec S768x5 1 := cmpf .ole main_v3 main_v4
  let main_v6 : FVec F S5 .f32 := Host.absf main_arg2
  let main_cst_1 : FVec F S_ .f32 := constant S_ .f32 0x551184E7#32
  let main_v7 : FVec F S5 .f32 := broadcastInDim S5 ![] bcast_S_S5 main_cst_1
  let main_v8 : IVec S5 1 := cmpf .ole main_v6 main_v7
  let main_v9 : FVec F S6 .f32 := Host.absf main_arg8
  let main_cst_2 : FVec F S_ .f32 := constant S_ .f32 0x551184E7#32
  let main_v10 : FVec F S6 .f32 := broadcastInDim S6 ![] bcast_S_S6 main_cst_2
  let main_v11 : IVec S6 1 := cmpf .ole main_v9 main_v10
  let main_v12 : FVec F S5 .f32 := Host.absf main_arg9
  let main_cst_3 : FVec F S_ .f32 := constant S_ .f32 0x551184E7#32
  let main_v13 : FVec F S5 .f32 := broadcastInDim S5 ![] bcast_S_S5 main_cst_3
  let main_v14 : IVec S5 1 := cmpf .ole main_v12 main_v13
  (main_v2, main_v5, main_v8, main_v11, main_v14)
-- ==== Kernel.lean ====
abbrev S32x768x32x32 : Shape := ⟨4, ![32, 768, 32, 32]⟩
abbrev S768x5 : Shape := ⟨2, ![768, 5]⟩
abbrev S5 : Shape := ⟨1, ![5]⟩
abbrev S5x768 : Shape := ⟨2, ![5, 768]⟩
abbrev S768 : Shape := ⟨1, ![768]⟩
abbrev S8 : Shape := ⟨1, ![8]⟩
abbrev S6 : Shape := ⟨1, ![6]⟩
abbrev S32x768x1024 : Shape := ⟨3, ![32, 768, 1024]⟩
abbrev S_ : Shape := ⟨0, ![]⟩
abbrev S2 : Shape := ⟨1, ![2]⟩
abbrev S3 : Shape := ⟨1, ![3]⟩
abbrev S1x8 : Shape := ⟨2, ![1, 8]⟩
abbrev S5x8 : Shape := ⟨2, ![5, 8]⟩
abbrev S5x1 : Shape := ⟨2, ![5, 1]⟩
abbrev S768x1 : Shape := ⟨2, ![768, 1]⟩
abbrev S32x5x1024 : Shape := ⟨3, ![32, 5, 1024]⟩
abbrev S8x1x1 : Shape := ⟨3, ![8, 1, 1]⟩
abbrev S4x768x1024 : Shape := ⟨3, ![4, 768, 1024]⟩
abbrev S4x5x1024 : Shape := ⟨3, ![4, 5, 1024]⟩
abbrev S1x1x1 : Shape := ⟨3, ![1, 1, 1]⟩
abbrev S1x768x1024 : Shape := ⟨3, ![1, 768, 1024]⟩
abbrev S768x1024 : Shape := ⟨2, ![768, 1024]⟩
abbrev S5x1024 : Shape := ⟨2, ![5, 1024]⟩
abbrev S1x5x1024 : Shape := ⟨3, ![1, 5, 1024]⟩
abbrev S1 : Shape := ⟨1, ![1]⟩
abbrev S1x1 : Shape := ⟨2, ![1, 1]⟩
abbrev S32x1024x5 : Shape := ⟨3, ![32, 1024, 5]⟩
abbrev S32x32x32x5 : Shape := ⟨4, ![32, 32, 32, 5]⟩

abbrev nBuf : Space → Nat
  | .hbm => 34
  | .vmem => 13
  | .smem => 0
  | _ => 0

abbrev bufTy : (tb : Table) → Fin (tcTables nBuf tb) → BufTy
  | .hbm, ⟨0, _⟩ => ⟨S32x768x32x32, .f32⟩
  | .hbm, ⟨1, _⟩ => ⟨S768x5, .f32⟩
  | .hbm, ⟨2, _⟩ => ⟨S5, .f32⟩
  | .hbm, ⟨3, _⟩ => ⟨S5x768, .f32⟩
  | .hbm, ⟨4, _⟩ => ⟨S768, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S6, .f32⟩
  | .hbm, ⟨9, _⟩ => ⟨S5, .f32⟩
  | .hbm, ⟨10, _⟩ => ⟨S32x768x1024, .f32⟩
  | .hbm, ⟨11, _⟩ => ⟨S5x768, .f32⟩
  | .hbm, ⟨12, _⟩ => ⟨S_, .f32⟩
  | .hbm, ⟨13, _⟩ => ⟨S2, .f32⟩
  | .hbm, ⟨14, _⟩ => ⟨S8, .f32⟩
  | .hbm, ⟨15, _⟩ => ⟨S_, .f32⟩
  | .hbm, ⟨16, _⟩ => ⟨S3, .f32⟩
  | .hbm, ⟨17, _⟩ => ⟨S8, .f32⟩
  | .hbm, ⟨18, _⟩ => ⟨S1x8, .f32⟩
  | .hbm, ⟨19, _⟩ => ⟨S1x8, .f32⟩
  | .hbm, ⟨20, _⟩ => ⟨S1x8, .f32⟩
  | .hbm, ⟨21, _⟩ => ⟨S1x8, .f32⟩
  | .hbm, ⟨22, _⟩ => ⟨S1x8, .f32⟩
  | .hbm, ⟨23, _⟩ => ⟨S5x8, .f32⟩
  | .hbm, ⟨24, _⟩ => ⟨S5x1, .f32⟩
  | .hbm, ⟨25, _⟩ => ⟨S768x1, .f32⟩
  | .hbm, ⟨26, _⟩ => ⟨S32x768x1024, .f32⟩
  | .hbm, ⟨27, _⟩ => ⟨S32x5x1024, .i32⟩
  | .hbm, ⟨28, _⟩ => ⟨S8x1x1, .f32⟩
  | .hbm, ⟨29, _⟩ => ⟨S32x768x32x32, .f32⟩
  | .hbm, ⟨30, _⟩ => ⟨S32x1024x5, .i32⟩
  | .hbm, ⟨31, _⟩ => ⟨S32x32x32x5, .i32⟩
  | .hbm, ⟨32, _⟩ => ⟨S_, .f32⟩
  | .hbm, ⟨33, _⟩ => ⟨S_, .f32⟩
  | .local _ .vmem, ⟨0, _⟩ => ⟨S4x768x1024, .f32⟩
  | .local _ .vmem, ⟨1, _⟩ => ⟨S4x768x1024, .f32⟩
  | .local _ .vmem, ⟨2, _⟩ => ⟨S5x768, .f32⟩
  | .local _ .vmem, ⟨3, _⟩ => ⟨S5x1, .f32⟩
  | .local _ .vmem, ⟨4, _⟩ => ⟨S5x768, .f32⟩
  | .local _ .vmem, ⟨5, _⟩ => ⟨S768x1, .f32⟩
  | .local _ .vmem, ⟨6, _⟩ => ⟨S5x8, .f32⟩
  | .local _ .vmem, ⟨7, _⟩ => ⟨S4x768x1024, .f32⟩
  | .local _ .vmem, ⟨8, _⟩ => ⟨S4x768x1024, .f32⟩
  | .local _ .vmem, ⟨9, _⟩ => ⟨S4x5x1024, .i32⟩
  | .local _ .vmem, ⟨10, _⟩ => ⟨S4x5x1024, .i32⟩
  | .local _ .vmem, ⟨11, _⟩ => ⟨S1x1x1, .f32⟩
  | .local _ .vmem, ⟨12, _⟩ => ⟨S1x1x1, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x5x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "loss_scale" => some ((1 / 819200 : ℝ) : EReal)
  | _ => none
-- ==== ReferenceIdeal.lean ====
abbrev S32x768x32x32 : Shape := ⟨4, ![32, 768, 32, 32]⟩
abbrev S768x5 : Shape := ⟨2, ![768, 5]⟩
abbrev S5 : Shape := ⟨1, ![5]⟩
abbrev S5x768 : Shape := ⟨2, ![5, 768]⟩
abbrev S768 : Shape := ⟨1, ![768]⟩
abbrev S8 : Shape := ⟨1, ![8]⟩
abbrev S6 : Shape := ⟨1, ![6]⟩
abbrev S32x32x32x768 : Shape := ⟨4, ![32, 32, 32, 768]⟩
abbrev S32x1024x768 : Shape := ⟨3, ![32, 1024, 768]⟩
abbrev S32x1024x5 : Shape := ⟨3, ![32, 1024, 5]⟩
abbrev S1x1x5 : Shape := ⟨3, ![1, 1, 5]⟩
abbrev S32x1024x1x5 : Shape := ⟨4, ![32, 1024, 1, 5]⟩
abbrev S32x1024x1x1 : Shape := ⟨4, ![32, 1024, 1, 1]⟩
abbrev S32x1024x1 : Shape := ⟨3, ![32, 1024, 1]⟩
abbrev S1x1x1x8 : Shape := ⟨4, ![1, 1, 1, 8]⟩
abbrev S32x1024x1x8 : Shape := ⟨4, ![32, 1024, 1, 8]⟩
abbrev S_ : Shape := ⟨0, ![]⟩
abbrev S1 : Shape := ⟨1, ![1]⟩
abbrev S1x1x1x1 : Shape := ⟨4, ![1, 1, 1, 1]⟩
abbrev S1x1x1x6 : Shape := ⟨4, ![1, 1, 1, 6]⟩
abbrev S32x1024x1x6 : Shape := ⟨4, ![32, 1024, 1, 6]⟩
abbrev S1x1x1x5 : Shape := ⟨4, ![1, 1, 1, 5]⟩
abbrev S1x1x768 : Shape := ⟨3, ![1, 1, 768]⟩
abbrev S32x32x32x5 : Shape := ⟨4, ![32, 32, 32, 5]⟩

abbrev nBuf : Space → Nat
  | .hbm => 231
  | .vmem => 0
  | .smem => 0
  | _ => 0

abbrev hbmTy0_0 (i : Nat) : BufTy := match i % 128 with
  | 0 => ⟨S32x768x32x32, .f32⟩
  | 1 => ⟨S768x5, .f32⟩
  | 2 => ⟨S5, .f32⟩
  | 3 => ⟨S5x768, .f32⟩
  | 4 => ⟨S768, .f32⟩
  | 5 => ⟨S8, .f32⟩
  | 6 => ⟨S8, .f32⟩
  | 7 => ⟨S8, .f32⟩
  | 8 => ⟨S6, .f32⟩
  | 9 => ⟨S5, .f32⟩
  | 10 => ⟨S32x32x32x768, .f32⟩
  | 11 => ⟨S32x1024x768, .f32⟩
  | 12 => ⟨S32x1024x5, .f32⟩
  | 13 => ⟨S1x1x5, .f32⟩
  | 14 => ⟨S32x1024x5, .f32⟩
  | 15 => ⟨S32x1024x5, .f32⟩
  | 16 => ⟨S32x1024x1x5, .f32⟩
  | 17 => ⟨S32x1024x1x1, .f32⟩
  | 18 => ⟨S32x1024x1, .f32⟩
  | 19 => ⟨S32x1024x1x1, .f32⟩
  | 20 => ⟨S1x1x1x8, .f32⟩
  | 21 => ⟨S32x1024x1x8, .f32⟩
  | 22 => ⟨S32x1024x1x8, .f32⟩
  | 23 => ⟨S32x1024x1x8, .f32⟩
  | 24 => ⟨S32x1024x1x8, .f32⟩
  | 25 => ⟨S32x1024x1x8, .i32⟩
  | 26 => ⟨S_, .f32⟩
  | 27 => ⟨S_, .i32⟩
  | 28 => ⟨S32x1024x1, .f32⟩
  | 29 => ⟨S32x1024x1, .i32⟩
  | 30 => ⟨S_, .i32⟩
  | 31 => ⟨S32x1024x1, .i32⟩
  | 32 => ⟨S32x1024x1, .i1⟩
  | 33 => ⟨S_, .i32⟩
  | 34 => ⟨S32x1024x1, .i32⟩
  | 35 => ⟨S32x1024x1, .i32⟩
  | 36 => ⟨S32x1024x1, .i32⟩
  | 37 => ⟨S32x1024x1x1, .i32⟩
  | 38 => ⟨S1, .i32⟩
  | 39 => ⟨S_, .i32⟩
  | 40 => ⟨S32x1024x1x1, .i32⟩
  | 41 => ⟨S32x1024x1x1, .i1⟩
  | 42 => ⟨S1x1x1x1, .i32⟩
  | 43 => ⟨S32x1024x1x1, .i32⟩
  | 44 => ⟨S32x1024x1x1, .i1⟩
  | 45 => ⟨S32x1024x1x1, .i1⟩
  | 46 => ⟨S_, .i1⟩
  | 47 => ⟨S32x1024x1, .i1⟩
  | 48 => ⟨S32x1024x1, .f32⟩
  | 49 => ⟨S_, .f32⟩
  | 50 => ⟨S32x1024x1, .f32⟩
  | 51 => ⟨S32x1024x1, .f32⟩
  | 52 => ⟨S32x1024x1x1, .f32⟩
  | 53 => ⟨S32x1024x1, .f32⟩
  | 54 => ⟨S32x1024x1x1, .f32⟩
  | 55 => ⟨S1x1x1x8, .f32⟩
  | 56 => ⟨S32x1024x1x8, .f32⟩
  | 57 => ⟨S32x1024x1x8, .f32⟩
  | 58 => ⟨S32x1024x1x8, .f32⟩
  | 59 => ⟨S32x1024x1x8, .f32⟩
  | 60 => ⟨S32x1024x1x8, .i32⟩
  | 61 => ⟨S_, .f32⟩
  | 62 => ⟨S_, .i32⟩
  | 63 => ⟨S32x1024x1, .f32⟩
  | 64 => ⟨S32x1024x1, .i32⟩
  | 65 => ⟨S_, .i32⟩
  | 66 => ⟨S32x1024x1, .i32⟩
  | 67 => ⟨S32x1024x1, .i1⟩
  | 68 => ⟨S_, .i32⟩
  | 69 => ⟨S32x1024x1, .i32⟩
  | 70 => ⟨S32x1024x1, .i32⟩
  | 71 => ⟨S32x1024x1, .i32⟩
  | 72 => ⟨S32x1024x1x1, .i32⟩
  | 73 => ⟨S1, .i32⟩
  | 74 => ⟨S_, .i32⟩
  | 75 => ⟨S32x1024x1x1, .i32⟩
  | 76 => ⟨S32x1024x1x1, .i1⟩
  | 77 => ⟨S1x1x1x1, .i32⟩
  | 78 => ⟨S32x1024x1x1, .i32⟩
  | 79 => ⟨S32x1024x1x1, .i1⟩
  | 80 => ⟨S32x1024x1x1, .i1⟩
  | 81 => ⟨S_, .i1⟩
  | 82 => ⟨S32x1024x1, .i1⟩
  | 83 => ⟨S32x1024x1, .f32⟩
  | 84 => ⟨S_, .f32⟩
  | 85 => ⟨S32x1024x1, .f32⟩
  | 86 => ⟨S32x1024x1, .f32⟩
  | 87 => ⟨S32x1024x1x1, .f32⟩
  | 88 => ⟨S32x1024x1, .f32⟩
  | 89 => ⟨S32x1024x1x1, .f32⟩
  | 90 => ⟨S1x1x1x8, .f32⟩
  | 91 => ⟨S32x1024x1x8, .f32⟩
  | 92 => ⟨S32x1024x1x8, .f32⟩
  | 93 => ⟨S32x1024x1x8, .f32⟩
  | 94 => ⟨S32x1024x1x8, .f32⟩
  | 95 => ⟨S32x1024x1x8, .i32⟩
  | 96 => ⟨S_, .f32⟩
  | 97 => ⟨S_, .i32⟩
  | 98 => ⟨S32x1024x1, .f32⟩
  | 99 => ⟨S32x1024x1, .i32⟩
  | 100 => ⟨S_, .i32⟩
  | 101 => ⟨S32x1024x1, .i32⟩
  | 102 => ⟨S32x1024x1, .i1⟩
  | 103 => ⟨S_, .i32⟩
  | 104 => ⟨S32x1024x1, .i32⟩
  | 105 => ⟨S32x1024x1, .i32⟩
  | 106 => ⟨S32x1024x1, .i32⟩
  | 107 => ⟨S32x1024x1x1, .i32⟩
  | 108 => ⟨S1, .i32⟩
  | 109 => ⟨S_, .i32⟩
  | 110 => ⟨S32x1024x1x1, .i32⟩
  | 111 => ⟨S32x1024x1x1, .i1⟩
  | 112 => ⟨S1x1x1x1, .i32⟩
  | 113 => ⟨S32x1024x1x1, .i32⟩
  | 114 => ⟨S32x1024x1x1, .i1⟩
  | 115 => ⟨S32x1024x1x1, .i1⟩
  | 116 => ⟨S_, .i1⟩
  | 117 => ⟨S32x1024x1, .i1⟩
  | 118 => ⟨S32x1024x1, .f32⟩
  | 119 => ⟨S_, .f32⟩
  | 120 => ⟨S32x1024x1, .f32⟩
  | 121 => ⟨S32x1024x1, .f32⟩
  | 122 => ⟨S32x1024x1x1, .f32⟩
  | 123 => ⟨S32x1024x1, .f32⟩
  | 124 => ⟨S32x1024x1x1, .f32⟩
  | 125 => ⟨S1x1x1x6, .f32⟩
  | 126 => ⟨S32x1024x1x6, .f32⟩
  | 127 => ⟨S32x1024x1x6, .f32⟩
  | _ => ⟨S32x768x32x32, .f32⟩

abbrev hbmTy0_1 (i : Nat) : BufTy := match i % 128 with
  | 0 => ⟨S32x1024x1x6, .f32⟩
  | 1 => ⟨S32x1024x1x6, .f32⟩
  | 2 => ⟨S32x1024x1x6, .i32⟩
  | 3 => ⟨S_, .f32⟩
  | 4 => ⟨S_, .i32⟩
  | 5 => ⟨S32x1024x1, .f32⟩
  | 6 => ⟨S32x1024x1, .i32⟩
  | 7 => ⟨S_, .i32⟩
  | 8 => ⟨S32x1024x1, .i32⟩
  | 9 => ⟨S32x1024x1, .i1⟩
  | 10 => ⟨S_, .i32⟩
  | 11 => ⟨S32x1024x1, .i32⟩
  | 12 => ⟨S32x1024x1, .i32⟩
  | 13 => ⟨S32x1024x1, .i32⟩
  | 14 => ⟨S32x1024x1x1, .i32⟩
  | 15 => ⟨S1, .i32⟩
  | 16 => ⟨S_, .i32⟩
  | 17 => ⟨S32x1024x1x1, .i32⟩
  | 18 => ⟨S32x1024x1x1, .i1⟩
  | 19 => ⟨S1x1x1x1, .i32⟩
  | 20 => ⟨S32x1024x1x1, .i32⟩
  | 21 => ⟨S32x1024x1x1, .i1⟩
  | 22 => ⟨S32x1024x1x1, .i1⟩
  | 23 => ⟨S_, .i1⟩
  | 24 => ⟨S32x1024x1, .i1⟩
  | 25 => ⟨S32x1024x1, .f32⟩
  | 26 => ⟨S_, .f32⟩
  | 27 => ⟨S32x1024x1, .f32⟩
  | 28 => ⟨S32x1024x1, .f32⟩
  | 29 => ⟨S32x1024x1x1, .f32⟩
  | 30 => ⟨S32x1024x1, .f32⟩
  | 31 => ⟨S32x1024x1x1, .f32⟩
  | 32 => ⟨S1x1x1x5, .f32⟩
  | 33 => ⟨S32x1024x1x5, .f32⟩
  | 34 => ⟨S32x1024x1x5, .f32⟩
  | 35 => ⟨S32x1024x1x5, .f32⟩
  | 36 => ⟨S32x1024x1x5, .f32⟩
  | 37 => ⟨S32x1024x1x5, .i32⟩
  | 38 => ⟨S_, .f32⟩
  | 39 => ⟨S_, .i32⟩
  | 40 => ⟨S32x1024x1, .f32⟩
  | 41 => ⟨S32x1024x1, .i32⟩
  | 42 => ⟨S_, .i32⟩
  | 43 => ⟨S32x1024x1, .i32⟩
  | 44 => ⟨S32x1024x1, .i1⟩
  | 45 => ⟨S_, .i32⟩
  | 46 => ⟨S32x1024x1, .i32⟩
  | 47 => ⟨S32x1024x1, .i32⟩
  | 48 => ⟨S32x1024x1, .i32⟩
  | 49 => ⟨S32x1024x1x1, .i32⟩
  | 50 => ⟨S1, .i32⟩
  | 51 => ⟨S_, .i32⟩
  | 52 => ⟨S32x1024x1x1, .i32⟩
  | 53 => ⟨S32x1024x1x1, .i1⟩
  | 54 => ⟨S1x1x1x1, .i32⟩
  | 55 => ⟨S32x1024x1x1, .i32⟩
  | 56 => ⟨S32x1024x1x1, .i1⟩
  | 57 => ⟨S32x1024x1x1, .i1⟩
  | 58 => ⟨S_, .i1⟩
  | 59 => ⟨S32x1024x1, .i1⟩
  | 60 => ⟨S32x1024x1, .f32⟩
  | 61 => ⟨S_, .f32⟩
  | 62 => ⟨S32x1024x1, .f32⟩
  | 63 => ⟨S32x1024x1, .f32⟩
  | 64 => ⟨S32x1024x1x1, .i32⟩
  | 65 => ⟨S32x1024x1x1, .i32⟩
  | 66 => ⟨S32x1024x1x1, .i32⟩
  | 67 => ⟨S32x1024x1x1, .i32⟩
  | 68 => ⟨S32x1024x1x1, .i32⟩
  | 69 => ⟨S32x1024x1x5, .i32⟩
  | 70 => ⟨S32x1024x1x1, .f32⟩
  | 71 => ⟨S32x1024x1x1, .f32⟩
  | 72 => ⟨S32x1024x1x1, .f32⟩
  | 73 => ⟨S32x1024x1x1, .f32⟩
  | 74 => ⟨S32x1024x1x1, .f32⟩
  | 75 => ⟨S32x1024x1x5, .f32⟩
  | 76 => ⟨S32x1024x1x5, .f32⟩
  | 77 => ⟨S32x1024x1x5, .f32⟩
  | 78 => ⟨S32x1024x1x5, .f32⟩
  | 79 => ⟨S32x1024x1x5, .f32⟩
  | 80 => ⟨S_, .f32⟩
  | 81 => ⟨S_, .f32⟩
  | 82 => ⟨S_, .f32⟩
  | 83 => ⟨S_, .f32⟩
  | 84 => ⟨S32x1024x1x5, .f32⟩
  | 85 => ⟨S32x1024x1x5, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S32x1024x5, .f32⟩
  | 96 => ⟨S32x1024x768, .f32⟩
  | 97 => ⟨S1x1x768, .f32⟩
  | 98 => ⟨S32x1024x768, .f32⟩
  | 99 => ⟨S32x1024x768, .f32⟩
  | 100 => ⟨S32x32x32x768, .f32⟩
  | 101 => ⟨S32x768x32x32, .f32⟩
  | 102 => ⟨S32x32x32x5, .i32⟩
  | _ => ⟨S32x768x32x32, .f32⟩

abbrev hbmTy (i : Nat) : BufTy := match i / 128 with
  | 0 => hbmTy0_0 i
  | 1 => hbmTy0_1 i
  | _ => ⟨S32x768x32x32, .f32⟩

abbrev bufTy : (tb : Table) → Fin (tcTables nBuf tb) → BufTy
  | .hbm, ⟨i, _⟩ => hbmTy i
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v15 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call2_v0 : Ref sig .tc := ⟨.hbm, 60, rfl⟩
abbrev main_call2_cst : Ref sig .tc := ⟨.hbm, 61, rfl⟩
abbrev main_call2_c : Ref sig .tc := ⟨.hbm, 62, rfl⟩
abbrev main_call2_v1_0 : Ref sig .tc := ⟨.hbm, 63, rfl⟩
abbrev main_v25 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_call4_v0 : Ref sig .tc := ⟨.hbm, 95, rfl⟩
abbrev main_call4_cst : Ref sig .tc := ⟨.hbm, 96, rfl⟩
abbrev main_call4_c : Ref sig .tc := ⟨.hbm, 97, rfl⟩
abbrev main_call4_v1_0 : Ref sig .tc := ⟨.hbm, 98, rfl⟩
abbrev main_v35 : Ref sig .tc := ⟨.hbm, 99, rfl⟩
abbrev main_call5_c : Ref sig .tc := ⟨.hbm, 100, rfl⟩
abbrev main_call5_v0 : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_c_1 : Ref sig .tc := ⟨.hbm, 108, rfl⟩
abbrev main_call5_c_2 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_call5_c_3 : Ref sig .tc := ⟨.hbm, 116, rfl⟩
abbrev main_call5_v12 : Ref sig .tc := ⟨.hbm, 117, rfl⟩
abbrev main_call5_v13 : Ref sig .tc := ⟨.hbm, 118, rfl⟩
abbrev main_call5_cst : Ref sig .tc := ⟨.hbm, 119, rfl⟩
abbrev main_call5_v14 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_call6_v0 : Ref sig .tc := ⟨.hbm, 130, rfl⟩
abbrev main_call6_cst : Ref sig .tc := ⟨.hbm, 131, rfl⟩
abbrev main_call6_c : Ref sig .tc := ⟨.hbm, 132, rfl⟩
abbrev main_call6_v1_0 : Ref sig .tc := ⟨.hbm, 133, rfl⟩
abbrev main_v45 : Ref sig .tc := ⟨.hbm, 134, rfl⟩
abbrev main_call7_c : Ref sig .tc := ⟨.hbm, 135, rfl⟩
abbrev main_call7_v0 : Ref sig .tc := ⟨.hbm, 136, rfl⟩
abbrev main_call7_v1 : Ref sig .tc := ⟨.hbm, 137, rfl⟩
abbrev main_call7_c_0 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_v5 : Ref sig .tc := ⟨.hbm, 142, rfl⟩
abbrev main_call7_c_1 : Ref sig .tc := ⟨.hbm, 143, rfl⟩
abbrev main_call7_c_2 : Ref sig .tc := ⟨.hbm, 144, rfl⟩
abbrev main_call7_v6 : Ref sig .tc := ⟨.hbm, 145, rfl⟩
abbrev main_call7_v7 : Ref sig .tc := ⟨.hbm, 146, rfl⟩
abbrev main_call7_v8 : Ref sig .tc := ⟨.hbm, 147, rfl⟩
abbrev main_call7_v9 : Ref sig .tc := ⟨.hbm, 148, rfl⟩
abbrev main_call7_v10 : Ref sig .tc := ⟨.hbm, 149, rfl⟩
abbrev main_call7_v11 : Ref sig .tc := ⟨.hbm, 150, rfl⟩
abbrev main_call7_c_3 : Ref sig .tc := ⟨.hbm, 151, rfl⟩
abbrev main_call7_v12 : Ref sig .tc := ⟨.hbm, 152, rfl⟩
abbrev main_call7_v13 : Ref sig .tc := ⟨.hbm, 153, rfl⟩
abbrev main_call7_cst : Ref sig .tc := ⟨.hbm, 154, rfl⟩
abbrev main_call7_v14 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_call8_v0 : Ref sig .tc := ⟨.hbm, 165, rfl⟩
abbrev main_call8_cst : Ref sig .tc := ⟨.hbm, 166, rfl⟩
abbrev main_call8_c : Ref sig .tc := ⟨.hbm, 167, rfl⟩
abbrev main_call8_v1_0 : Ref sig .tc := ⟨.hbm, 168, rfl⟩
abbrev main_v55 : Ref sig .tc := ⟨.hbm, 169, rfl⟩
abbrev main_call9_c : Ref sig .tc := ⟨.hbm, 170, rfl⟩
abbrev main_call9_v0 : Ref sig .tc := ⟨.hbm, 171, rfl⟩
abbrev main_call9_v1 : Ref sig .tc := ⟨.hbm, 172, rfl⟩
abbrev main_call9_c_0 : Ref sig .tc := ⟨.hbm, 173, rfl⟩
abbrev main_call9_v2 : Ref sig .tc := ⟨.hbm, 174, rfl⟩
abbrev main_call9_v3 : Ref sig .tc := ⟨.hbm, 175, rfl⟩
abbrev main_call9_v4 : Ref sig .tc := ⟨.hbm, 176, rfl⟩
abbrev main_call9_v5 : Ref sig .tc := ⟨.hbm, 177, rfl⟩
abbrev main_call9_c_1 : Ref sig .tc := ⟨.hbm, 178, rfl⟩
abbrev main_call9_c_2 : Ref sig .tc := ⟨.hbm, 179, rfl⟩
abbrev main_call9_v6 : Ref sig .tc := ⟨.hbm, 180, rfl⟩
abbrev main_call9_v7 : Ref sig .tc := ⟨.hbm, 181, rfl⟩
abbrev main_call9_v8 : Ref sig .tc := ⟨.hbm, 182, rfl⟩
abbrev main_call9_v9 : Ref sig .tc := ⟨.hbm, 183, rfl⟩
abbrev main_call9_v10 : Ref sig .tc := ⟨.hbm, 184, rfl⟩
abbrev main_call9_v11 : Ref sig .tc := ⟨.hbm, 185, rfl⟩
abbrev main_call9_c_3 : Ref sig .tc := ⟨.hbm, 186, rfl⟩
abbrev main_call9_v12 : Ref sig .tc := ⟨.hbm, 187, rfl⟩
abbrev main_call9_v13 : Ref sig .tc := ⟨.hbm, 188, rfl⟩
abbrev main_call9_cst : Ref sig .tc := ⟨.hbm, 189, rfl⟩
abbrev main_call9_v14 : Ref sig .tc := ⟨.hbm, 190, rfl⟩
abbrev main_v56 : Ref sig .tc := ⟨.hbm, 191, rfl⟩
abbrev main_v57 : Ref sig .tc := ⟨.hbm, 192, rfl⟩
abbrev main_v58 : Ref sig .tc := ⟨.hbm, 193, rfl⟩
abbrev main_v59 : Ref sig .tc := ⟨.hbm, 194, rfl⟩
abbrev main_v60 : Ref sig .tc := ⟨.hbm, 195, rfl⟩
abbrev main_v61 : Ref sig .tc := ⟨.hbm, 196, rfl⟩
abbrev main_v62 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_cst : Ref sig .tc := ⟨.hbm, 208, rfl⟩
abbrev main_v73 : Ref sig .tc := ⟨.hbm, 209, rfl⟩
abbrev main_cst_0 : Ref sig .tc := ⟨.hbm, 210, rfl⟩
abbrev main_v74 : Ref sig .tc := ⟨.hbm, 211, rfl⟩
abbrev main_v75 : Ref sig .tc := ⟨.hbm, 212, rfl⟩
abbrev main_v76 : Ref sig .tc := ⟨.hbm, 213, rfl⟩
abbrev main_cst_1 : Ref sig .tc := ⟨.hbm, 214, rfl⟩
abbrev main_v77 : Ref sig .tc := ⟨.hbm, 215, rfl⟩
abbrev main_cst_2 : Ref sig .tc := ⟨.hbm, 216, rfl⟩
abbrev main_v78 : Ref sig .tc := ⟨.hbm, 217, rfl⟩
abbrev main_cst_3 : Ref sig .tc := ⟨.hbm, 218, rfl⟩
abbrev main_v79 : Ref sig .tc := ⟨.hbm, 219, rfl⟩
abbrev main_cst_4 : Ref sig .tc := ⟨.hbm, 220, rfl⟩
abbrev main_v80 : Ref sig .tc := ⟨.hbm, 221, rfl⟩
abbrev main_v81 : Ref sig .tc := ⟨.hbm, 222, rfl⟩
abbrev main_v82 : Ref sig .tc := ⟨.hbm, 223, rfl⟩
abbrev main_v83 : Ref sig .tc := ⟨.hbm, 224, rfl⟩
abbrev main_v84 : Ref sig .tc := ⟨.hbm, 225, rfl⟩
abbrev main_v85 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩

abbrev nD : Nat := 1
abbrev τ : Topo := Topo.v7x

variable {F : FTy → Type} [FloatOps F]
-- ==== Proof.KernelChain.lean ====
/-
  The quantiser of one sample, as the kernel computes it: the latent of a sample, the walk over the eight columns of
  levels, the output projection and the sum of squares. The payloads of the body's four samples are these functions.
-/
module

public import proofs.«01_k».proof.Proof.Gen.KernelIdeal.Frame

@[expose] public section

set_option maxRecDepth 16384

noncomputable section

namespace Cert.KernelIdeal.Chain

open Cert.KernelIdeal Cert.KernelIdeal.Gen Idealize.ShloMosaic

variable {F : FTy → Type} [FloatOps F] [Named F]

/-- The latent of one sample: five rows of 1024 positions. -/
def latV (z : Vec F S1x768x1024 .f32) (w : Vec F S5x768 .f32) (b : Vec F S5x1 .f32) : FVec F S5x1024 .f32 :=
  addf (matmul dot_S5x768_S768x1024_S5x1024_1_0_0_1_n_n none (shapeCast S5x768 w shapeCasts_S5x768_S5x768)
      (shapeCast S768x1024 z shapeCasts_S1x768x1024_S768x1024) (constant S5x1024 .f32 0x00000000#32))
    (broadcastTo S5x1024 (shapeCast S5x1 b shapeCasts_S5x1_S5x1) broadcasts_S5x1_S5x1024)

/-- The distance to one column of levels. -/
def distV (x : FVec F S5x1024 .f32) (l : Vec F S5x1 .f32) : FVec F S5x1024 .f32 :=
  absf (subf x (broadcastTo S5x1024 (shapeCast S5x1 l shapeCasts_S5x1_S5x1) broadcasts_S5x1_S5x1024))

/-- One column of levels at every position. -/
def spread (l : Vec F S5x1 .f32) : FVec F S5x1024 .f32 :=
  addf (broadcastTo S5x1024 (shapeCast S5x1 l shapeCasts_S5x1_S5x1) broadcasts_S5x1_S5x1024)
    (broadcast S5x1024 (Scalar.ofBits .f32 0x00000000#32))

/-- The least distance to the columns `0 … k`. -/
def bestD (x : FVec F S5x1024 .f32) (l : ℕ → Vec F S5x1 .f32) : ℕ → FVec F S5x1024 .f32
  | 0 => distV x (l 0)
  | k + 1 => select (cmpf .olt (distV x (l (k + 1))) (bestD x l k)) (distV x (l (k + 1))) (bestD x l k)

/-- Whether column `k + 1` is nearer than those before it. -/
def nearer (x : FVec F S5x1024 .f32) (l : ℕ → Vec F S5x1 .f32) (k : ℕ) : IVec S5x1024 1 :=
  cmpf .olt (distV x (l (k + 1))) (bestD x l k)

/-- The number of the nearest column. -/
def bestI (x : FVec F S5x1024 .f32) (l : ℕ → Vec F S5x1 .f32) : ℕ → IVec S5x1024 32
  | 0 => broadcast S5x1024 0#32
  | k + 1 => select (nearer x l k) (broadcast S5x1024 (BitVec.ofNat 32 (k + 1))) (bestI x l k)

/-- The nearest level. -/
def bestV (x : FVec F S5x1024 .f32) (l : ℕ → Vec F S5x1 .f32) : ℕ → FVec F S5x1024 .f32
  | 0 => spread (l 0)
  | k + 1 => select (nearer x l k) (spread (l (k + 1))) (bestV x l k)

/-- The columns of levels by number. -/
def cols (l0 l1 l2 l3 l4 l5 l6 l7 : Vec F S5x1 .f32) : ℕ → Vec F S5x1 .f32
  | 0 => l0
  | 1 => l1
  | 2 => l2
  | 3 => l3
  | 4 => l4
  | 5 => l5
  | 6 => l6
  | _ => l7

/-- The output block of one sample. -/
def outV (w : Vec F S5x768 .f32) (o : Vec F S768x1 .f32) (q : FVec F S5x1024 .f32) : FVec F S1x768x1024 .f32 :=
  shapeCast S1x768x1024 (addf (matmul dot_S5x768_S5x1024_S768x1024_0_0_1_1_n_n none w q (constant S768x1024 .f32 0x00000000#32))
    (broadcastTo S768x1024 (shapeCast S768x1 o shapeCasts_S768x1_S768x1) broadcasts_S768x1_S768x1024))
    shapeCasts_S768x1024_S1x768x1024

/-- The sum of the squares of one sample. -/
def sqV (q x : FVec F S5x1024 .f32) : F .f32 :=
  extractAt ![0, 0, 0] (shapeCast S1x1x1 (multiReduction .add [1, 2] S1
    (shapeCast S1x5x1024 (mulf (subf q x) (subf q x)) shapeCasts_S5x1024_S1x5x1024) 0x00000000#32
    reduces_S1x5x1024_S1 (.inl rfl) rfl) shapeCasts_S1_S1x1x1) inpos_S1x1x1_p0_0_0

variable (x0 : Vec F S4x768x1024 .f32) (x1 : Vec F S5x768 .f32) (x2 : Vec F S5x1 .f32) (x3 : Vec F S5x768 .f32)
  (x4 : Vec F S768x1 .f32) (x5 : Vec F S5x8 .f32)

/-- The columns of the table of levels. -/
def tab : ℕ → Vec F S5x1 .f32 :=
  cols (View.ld x5 r0_3) (View.ld x5 r0_4) (View.ld x5 r0_5) (View.ld x5 r0_6) (View.ld x5 r0_7) (View.ld x5 r0_8)
    (View.ld x5 r0_9) (View.ld x5 r0_10)

/-- The latents of the four samples. -/
def lat0 : FVec F S5x1024 .f32 := latV (View.ld x0 r0_0) (View.ld x1 r0_1) (View.ld x2 r0_2)
def lat1 : FVec F S5x1024 .f32 := latV (View.ld x0 r0_13) (View.ld x1 r0_1) (View.ld x2 r0_2)
def lat2 : FVec F S5x1024 .f32 := latV (View.ld x0 r0_15) (View.ld x1 r0_1) (View.ld x2 r0_2)
def lat3 : FVec F S5x1024 .f32 := latV (View.ld x0 r0_17) (View.ld x1 r0_1) (View.ld x2 r0_2)

/-- What the body stores for sample 3 of the output block. -/
theorem out_piece3 : k0_pay156 (k0_pay178 x0 x1 x2 x3 x4 x5) (k0_pay179 x0 x1 x2 x3 x4 x5) (k0_pay182 x0 x1 x2 x3 x4 x5) (k0_pay183 x0 x1 x2 x3 x4 x5) (k0_pay184 x0 x1 x2 x3 x4 x5) (k0_pay185 x0 x1 x2 x3 x4 x5) (View.ld x5 r0_9) (View.ld x5 r0_10) (View.ld x3 r0_1) (View.ld x4 r0_11)
    = outV (View.ld x3 r0_1) (View.ld x4 r0_11) (bestV (lat3 x0 x1 x2) (tab x5) 7) := rfl

/-- What the body stores for sample 2 of the output block. -/
theorem out_piece2 : k0_pay118 (k0_pay116 (k0_pay171 x0 x1 x2 x3 x4 x5) (k0_pay172 x0 x1 x2 x3 x4 x5) (k0_pay174 x0 x1 x2 x3 x4 x5) (k0_pay175 x0 x1 x2 x3 x4 x5) (k0_pay176 x0 x1 x2 x3 x4 x5) (k0_pay177 x0 x1 x2 x3 x4 x5) (View.ld x5 r0_8) (View.ld x5 r0_9) (View.ld x5 r0_10)) (View.ld x3 r0_1) (constant S768x1024 .f32 0x00000000#32) (View.ld x4 r0_11)
    = outV (View.ld x3 r0_1) (View.ld x4 r0_11) (bestV (lat2 x0 x1 x2) (tab x5) 7) := rfl

/-- What the body stores for sample 1 of the output block. -/
theorem out_piece1 : k0_pay81 (k0_pay168 x0 x1 x2 x3 x4 x5) (k0_pay169 x0 x1 x2 x3 x4 x5) (k0_pay170 x0 x1 x2 x3 x4 x5) (View.ld x3 r0_1) (View.ld x4 r0_11)
    = outV (View.ld x3 r0_1) (View.ld x4 r0_11) (bestV (lat1 x0 x1 x2) (tab x5) 7) := rfl

/-- What the body stores for sample 0 of the output block. -/
theorem out_piece0 : k0_pay41 (k0_pay157 x0 x1 x2 x3 x4 x5) (k0_pay158 x0 x1 x2 x3 x4 x5) (k0_pay160 x0 x1 x2 x3 x4 x5) (k0_pay161 x0 x1 x2 x3 x4 x5) (k0_pay162 x0 x1 x2 x3 x4 x5) (k0_pay163 x0 x1 x2 x3 x4 x5) (View.ld x5 r0_10) (View.ld x3 r0_1) (View.ld x4 r0_11)
    = outV (View.ld x3 r0_1) (View.ld x4 r0_11) (bestV (lat0 x0 x1 x2) (tab x5) 7) := rfl

/-- What the body stores for sample 3 of the block of codes. -/
theorem code_piece3 : k0_pay1 (k0_pay153 (k0_pay178 x0 x1 x2 x3 x4 x5) (k0_pay142 (k0_pay178 x0 x1 x2 x3 x4 x5) k0_pay124 (k0_pay180 x0 x1 x2 x3 x4 x5) (k0_pay181 x0 x1 x2 x3 x4 x5) (View.ld x5 r0_5) (View.ld x5 r0_6) (View.ld x5 r0_7)) (k0_pay184 x0 x1 x2 x3 x4 x5) (k0_pay185 x0 x1 x2 x3 x4 x5) (View.ld x5 r0_9) (View.ld x5 r0_10))
    = shapeCast S1x5x1024 (bestI (lat3 x0 x1 x2) (tab x5) 7) shapeCasts_S5x1024_S1x5x1024 := rfl

/-- What the body stores for sample 2 of the block of codes. -/
theorem code_piece2 : k0_pay119 (k0_pay115 (k0_pay171 x0 x1 x2 x3 x4 x5) (k0_pay99 (k0_pay171 x0 x1 x2 x3 x4 x5) (k0_pay173 x0 x1 x2 x3 x4 x5) (View.ld x5 r0_4) (View.ld x5 r0_5) (View.ld x5 r0_6)) (k0_pay176 x0 x1 x2 x3 x4 x5) (k0_pay177 x0 x1 x2 x3 x4 x5) k0_pay105 (View.ld x5 r0_8) (View.ld x5 r0_9) (View.ld x5 r0_10))
    = shapeCast S1x5x1024 (bestI (lat2 x0 x1 x2) (tab x5) 7) shapeCasts_S5x1024_S1x5x1024 := rfl

/-- What the body stores for sample 1 of the block of codes. -/
theorem code_piece1 : k0_pay82 (k0_pay77 (k0_pay165 x0 x1 x2 x3 x4 x5) (k0_pay167 x0 x1 x2 x3 x4 x5) (k0_pay61 (k0_pay164 x0 x1 x2 x3 x4 x5) (View.ld x2 r0_2) (View.ld x5 r0_3) (View.ld x5 r0_4) (View.ld x5 r0_5) (View.ld x5 r0_6)) (View.ld x5 r0_7) (View.ld x5 r0_8) (View.ld x5 r0_9) (View.ld x5 r0_10))
    = shapeCast S1x5x1024 (bestI (lat1 x0 x1 x2) (tab x5) 7) shapeCasts_S5x1024_S1x5x1024 := rfl

/-- What the body stores for sample 0 of the block of codes. -/
theorem code_piece0 : k0_pay42 (k0_pay157 x0 x1 x2 x3 x4 x5) (k0_pay162 x0 x1 x2 x3 x4 x5) (k0_pay35 (k0_pay157 x0 x1 x2 x3 x4 x5) (k0_pay159 x0 x1 x2 x3 x4 x5) (k0_pay16 (View.ld x0 r0_0) (View.ld x1 r0_1) (View.ld x2 r0_2) (View.ld x5 r0_3) (View.ld x5 r0_4) (View.ld x5 r0_5)) (View.ld x5 r0_6) (View.ld x5 r0_7) (View.ld x5 r0_8) (View.ld x5 r0_9)) (View.ld x5 r0_10)
    = shapeCast S1x5x1024 (bestI (lat0 x0 x1 x2) (tab x5) 7) shapeCasts_S5x1024_S1x5x1024 := rfl

/-- What the body stores of the loss: the scaled sum of the four samples' sums of squares. -/
theorem loss_piece : k0_pay2 (k0_pay155 (k0_pay117 (k0_pay80 (k0_pay40 (k0_pay157 x0 x1 x2 x3 x4 x5) (k0_pay158 x0 x1 x2 x3 x4 x5) (k0_pay160 x0 x1 x2 x3 x4 x5) (k0_pay161 x0 x1 x2 x3 x4 x5) (k0_pay162 x0 x1 x2 x3 x4 x5) (k0_pay163 x0 x1 x2 x3 x4 x5) (View.ld x5 r0_10)) (k0_pay165 x0 x1 x2 x3 x4 x5) (k0_pay168 x0 x1 x2 x3 x4 x5) (k0_pay169 x0 x1 x2 x3 x4 x5) (k0_pay170 x0 x1 x2 x3 x4 x5)) (k0_pay171 x0 x1 x2 x3 x4 x5) (k0_pay172 x0 x1 x2 x3 x4 x5) (k0_pay174 x0 x1 x2 x3 x4 x5) (k0_pay175 x0 x1 x2 x3 x4 x5) (k0_pay176 x0 x1 x2 x3 x4 x5) (k0_pay177 x0 x1 x2 x3 x4 x5) (View.ld x5 r0_8) (View.ld x5 r0_9) (View.ld x5 r0_10)) (k0_pay178 x0 x1 x2 x3 x4 x5) (k0_pay179 x0 x1 x2 x3 x4 x5) (k0_pay182 x0 x1 x2 x3 x4 x5) (k0_pay183 x0 x1 x2 x3 x4 x5) (k0_pay184 x0 x1 x2 x3 x4 x5) (k0_pay185 x0 x1 x2 x3 x4 x5) (View.ld x5 r0_9) (View.ld x5 r0_10))
    = k0_pay2 (Scalar.addf (Scalar.addf (Scalar.addf (sqV (bestV (lat0 x0 x1 x2) (tab x5) 7) (lat0 x0 x1 x2))
        (sqV (bestV (lat1 x0 x1 x2) (tab x5) 7) (lat1 x0 x1 x2))) (sqV (bestV (lat2 x0 x1 x2) (tab x5) 7) (lat2 x0 x1 x2)))
        (sqV (bestV (lat3 x0 x1 x2) (tab x5) 7) (lat3 x0 x1 x2))) := rfl

end Cert.KernelIdeal.Chain

end
-- ==== Proof.Near.lean ====
/-
  The nearest of a row of levels, the meeting point of the two programs: walking the levels in order and keeping the
  first of the nearest. The reference's arg-min, a fold over one axis, finds its index; levels far away at the row's end
  do not change it.
-/
module

public import proofs.«01_k».proof.Proof.Gen.ReferenceIdeal
public import Idealize.ShloMosaic.PureOps.Reduce
public import Idealize.ShloMosaic.PureOps.Ideal.Laws
public import Idealize.ShloMosaic.Lib.StableHlo.Predicate
public import Idealize.ShloMosaic.Lib.Pointwise

@[expose] public section

noncomputable section

namespace Cert.Proof

open Idealize.ShloMosaic

/-- The distance of two numbers. -/
def dist (x v : EReal) : EReal := max (x - v) (-(x - v))

/-- The index of the first of the nearest to `x` among the levels `v 0 … v m`. -/
def near (x : EReal) (v : ℕ → EReal) : ℕ → ℕ
  | 0 => 0
  | k + 1 => if dist x (v (k + 1)) < dist x (v (near x v k)) then k + 1 else near x v k

theorem near_le (x : EReal) (v : ℕ → EReal) : ∀ k, near x v k ≤ k
  | 0 => le_refl _
  | k + 1 => by
    have := near_le x v k
    unfold near
    split <;> omega

/-- The level kept is as near as the first. -/
theorem dist_near_le (x : EReal) (v : ℕ → EReal) : ∀ k, dist x (v (near x v k)) ≤ dist x (v 0)
  | 0 => le_refl _
  | k + 1 => by
    have h := dist_near_le x v k
    rw [near]
    split
    · next h' => exact h'.le.trans h
    · exact h

/-- Levels after `m` that are no nearer than the first do not change the index. -/
theorem near_pad (x : EReal) (v : ℕ → EReal) (m n : ℕ) (hn : m ≤ n)
    (h : ∀ k, m < k → k ≤ n → dist x (v 0) ≤ dist x (v k)) : near x v n = near x v m := by
  induction n with
  | zero => rw [Nat.le_zero.mp hn]
  | succ n ih =>
    rcases Nat.eq_or_lt_of_le hn with e | hlt
    · rw [e]
    · have hmn : m ≤ n := Nat.lt_succ_iff.mp hlt
      have ihn := ih hmn (fun k hk hk' => h k hk (by omega))
      rw [near, if_neg, ihn]
      exact not_lt.mpr ((dist_near_le x v n).trans (h (n + 1) hlt (le_refl _)))

/-- A row of levels, the filler 1e30 after them. -/
def padded {n : ℕ} (v : (⟨1, ![n]⟩ : Shape).Idx → EReal) (k : ℕ) : EReal :=
  if h : k < n then v (ix1 ⟨k, h⟩) else Ideal.ofBits .f32 0x7149F2CA#32

theorem padded_of_lt {n : ℕ} (v : (⟨1, ![n]⟩ : Shape).Idx → EReal) (k : Fin n) : padded v k.val = v (ix1 k) := by
  rw [padded, dif_pos k.isLt]

/-- The five columns' levels. -/
def lev (v0 v1 v2 : (⟨1, ![8]⟩ : Shape).Idx → EReal) (v3 : (⟨1, ![6]⟩ : Shape).Idx → EReal)
    (v4 : (⟨1, ![5]⟩ : Shape).Idx → EReal) : Fin 5 → ℕ → EReal :=
  ![padded v0, padded v1, padded v2, padded v3, padded v4]

/-- The last level of each column. -/
def top : Fin 5 → ℕ := ![7, 7, 7, 5, 4]

theorem five_cases : ∀ c : Fin 5, c = 0 ∨ c = 1 ∨ c = 2 ∨ c = 3 ∨ c = 4 := by decide

/-- The index depends on the levels up to `m` only. -/
theorem near_congr (x : EReal) (v w : ℕ → EReal) : ∀ m, (∀ k, k ≤ m → v k = w k) → near x v m = near x w m
  | 0, _ => rfl
  | m + 1, h => by
    have ih := near_congr x v w m (fun k hk => h k (by omega))
    rw [near, near, ih, h (m + 1) (le_refl _), h (near x w m) ((near_le x w m).trans (Nat.le_succ m))]

/-- One step of the arg-min, the left entry standing at a lower index: it goes to the right entry when that is smaller. -/
theorem argmin_step (a b : EReal) (i j : ℕ) (hij : i < j) (hj : j < 2 ^ 31) :
    Cert.ReferenceIdeal.reducer_argmin_f32_i32 (F := Ideal) (a, BitVec.ofNat 32 i) (b, BitVec.ofNat 32 j)
      = if b < a then (b, BitVec.ofNat 32 j) else (a, BitVec.ofNat 32 i) := by
  have hs : IntOp.cmpi .slt (BitVec.ofNat 32 i) (BitVec.ofNat 32 j) = 1#1 := by
    have hi : (BitVec.ofNat 32 i).toNat = i := by rw [BitVec.toNat_ofNat]; omega
    have hj' : (BitVec.ofNat 32 j).toNat = j := by rw [BitVec.toNat_ofNat]; omega
    rw [StableHlo.Predicate.slt_iff_toNat (by omega) (by omega)]
    omega
  unfold Cert.ReferenceIdeal.reducer_argmin_f32_i32
  simp only [hs, Ideal.cmpf_def, Ideal.cmp]
  rcases lt_trichotomy a b with h | h | h
  · simp [h, h.not_gt, h.ne, Scalar.select, IntOp.ori, IntOp.andi]
  · simp [h, Scalar.select, IntOp.ori, IntOp.andi]
  · simp [h, h.not_gt, h.ne', Scalar.select, IntOp.ori, IntOp.andi]

/-- The first step, from the top value at index zero. -/
theorem argmin_first (b : EReal) :
    Cert.ReferenceIdeal.reducer_argmin_f32_i32 (F := Ideal) ((⊤ : EReal), 0#32) (b, BitVec.ofNat 32 0)
      = (b, BitVec.ofNat 32 0) := by
  unfold Cert.ReferenceIdeal.reducer_argmin_f32_i32
  simp [Ideal.cmpf_def, Ideal.cmp, Scalar.select, IntOp.ori, IntOp.andi]

/-- The arg-min over the levels in order ends at the nearest one's distance and index. -/
theorem argmin_fold (x : EReal) (v : ℕ → EReal) : ∀ m, m < 2 ^ 31 →
    (List.range (m + 1)).foldl
        (fun acc k => Cert.ReferenceIdeal.reducer_argmin_f32_i32 (F := Ideal) acc (dist x (v k), BitVec.ofNat 32 k))
        ((⊤ : EReal), 0#32)
      = (dist x (v (near x v m)), BitVec.ofNat 32 (near x v m))
  | 0, _ => by simpa [near] using argmin_first (dist x (v 0))
  | m + 1, hm => by
    rw [List.range_succ, List.foldl_append, argmin_fold x v m (by omega)]
    simp only [List.foldl_cons, List.foldl_nil]
    rw [argmin_step _ _ _ _ (Nat.lt_succ_of_le (near_le x v m)) hm, near]
    split <;> rfl

/-- Over the last of four axes a two-operand reduction lists a result element's pairs by that axis's coordinate. -/
theorem fiber_last {α β : Type} {d : Fin 4 → ℕ} {t : Shape} (x : (⟨4, d⟩ : Shape).Idx → α) (y : (⟨4, d⟩ : Shape).Idx → β)
    (h' : (⟨4, d⟩ : Shape).ReducesTo [3] t) (h : (⟨4, d⟩ : Shape).Reduces [3] t) (j : t.Idx) :
    Host.argReduceFiber x y h' j = (List.finRange (d 3)).map fun k => (x (h.lift j k), y (h.lift j k)) := by
  have key : (List.finRange (⟨4, d⟩ : Shape).numel).filter (fun n => decide (h'.drop ((⟨4, d⟩ : Shape).rowMajor.symm n) = j))
      = (List.finRange (d 3)).map fun k => (⟨4, d⟩ : Shape).rowMajor (h.lift j k) := by
    have p1 : ((List.finRange (⟨4, d⟩ : Shape).numel).filter
        (fun n => decide (h'.drop ((⟨4, d⟩ : Shape).rowMajor.symm n) = j))).Pairwise (· < ·) :=
      (List.pairwise_lt_finRange _).filter _
    have p2 : ((List.finRange (d 3)).map fun k => (⟨4, d⟩ : Shape).rowMajor (h.lift j k)).Pairwise (· < ·) := by
      rw [List.pairwise_map]
      refine (List.pairwise_lt_finRange _).imp fun {r r'} hr => ?_
      show (_ : Fin _).val < (_ : Fin _).val
      rw [Shape.rowMajor_val_four, Shape.rowMajor_val_four]
      have e0 : (h.lift j r 0).val = (h.lift j r' 0).val := rfl
      have e1 : (h.lift j r 1).val = (h.lift j r' 1).val := rfl
      have e2 : (h.lift j r 2).val = (h.lift j r' 2).val := rfl
      have e3 : (h.lift j r 3).val = r.val := rfl
      have e3' : (h.lift j r' 3).val = r'.val := rfl
      rw [e0, e1, e2, e3, e3']
      exact Nat.add_lt_add_left hr _
    refine List.Perm.eq_of_pairwise (fun a b _ _ hab hba => absurd hab (lt_asymm hba)) p1 p2 ?_
    refine (List.perm_ext_iff_of_nodup (p1.imp fun hlt => hlt.ne) (p2.imp fun hlt => hlt.ne)).mpr fun n => ?_
    simp only [List.mem_filter, List.mem_finRange, true_and, decide_eq_true_eq, List.mem_map]
    constructor
    · intro e
      refine ⟨(⟨4, d⟩ : Shape).rowMajor.symm n 3, ?_⟩
      have := h.lift_drop ((⟨4, d⟩ : Shape).rowMajor.symm n)
      rw [← Shape.ReducesTo.drop_eq_drop h' h, e] at this
      rw [this, Equiv.apply_symm_apply]
    · rintro ⟨k, rfl⟩
      rw [Equiv.symm_apply_apply, Shape.ReducesTo.drop_eq_drop h' h, h.drop_lift]
  unfold Host.argReduceFiber
  rw [key, List.map_map]
  refine List.map_congr_left fun k _ => ?_
  simp [Function.comp]

/-- The host arg-min's index over the last of four axes, the values there the distances of one number to a row of levels. -/
theorem argmin_last {d : Fin 4 → ℕ} {t u : Shape} (x : (⟨4, d⟩ : Shape).Idx → Ideal .f32) (y : (⟨4, d⟩ : Shape).Idx → BitVec 32)
    (ix : u.Idx → Ideal .f32) (iy : u.Idx → BitVec 32) (hu : 0 < u.numel)
    (h' : (⟨4, d⟩ : Shape).ReducesTo [3] t) (h : (⟨4, d⟩ : Shape).Reduces [3] t) (j : t.Idx) (m : ℕ) (hd : d 3 = m + 1)
    (hm : m < 2 ^ 31) (a : EReal) (v : ℕ → EReal)
    (hx : ∀ k, x (h.lift j k) = dist a (v k.val)) (hy : ∀ k, y (h.lift j k) = BitVec.ofNat 32 k.val)
    (hix : ix (Shape.Idx.first hu) = (⊤ : EReal)) (hiy : iy (Shape.Idx.first hu) = 0#32) :
    (Host.argReduce Cert.ReferenceIdeal.reducer_argmin_f32_i32 x y ix iy h' hu j).2 = BitVec.ofNat 32 (near a v m) := by
  rw [Ideal.argReduce_eq_reduce2, Host.reduce2_eq_foldl_fiber, fiber_last x y h' h, hix, hiy]
  have e : (List.finRange (d 3)).map (fun k => (x (h.lift j k), y (h.lift j k)))
      = (List.range (m + 1)).map fun k => ((dist a (v k), BitVec.ofNat 32 k) : EReal × BitVec 32) := by
    rw [← hd, ← List.map_coe_finRange_eq_range, List.map_map]
    exact List.map_congr_left fun k _ => by rw [hx, hy]; rfl
  rw [e, List.foldl_map, argmin_fold a v m hm]

end Cert.Proof

end
-- ==== Proof.KernelLevels.lean ====
/-
  The quantiser's walk read at a position, over the extended reals: it keeps the nearest level and its number.
-/
module

public import proofs.«01_k».proof.Proof.KernelChain
public import proofs.«01_k».proof.Proof.Near

@[expose] public section

set_option maxRecDepth 16384

noncomputable section

namespace Cert.KernelIdeal.Chain

open Cert.KernelIdeal Cert.KernelIdeal.Gen Idealize.ShloMosaic Cert.Proof

theorem latV_apply (z : FVec Ideal S1x768x1024 .f32) (w : FVec Ideal S5x768 .f32) (b : FVec Ideal S5x1 .f32) (c : Fin 5) (n : Fin 1024) :
    latV (F := Ideal) z w b (ix2 c n) = (∑ k : Fin 768, w (ix2 c k) * z (ix3 0 k n)) + b (ix2 c 0) := by
  pointwise [latV]

theorem distV_apply (x : FVec Ideal S5x1024 .f32) (l : FVec Ideal S5x1 .f32) (c : Fin 5) (n : Fin 1024) :
    distV (F := Ideal) x l (ix2 c n) = dist (x (ix2 c n)) (l (ix2 c 0)) := by
  pointwise [distV]
  rfl

theorem spread_apply (l : FVec Ideal S5x1 .f32) (c : Fin 5) (n : Fin 1024) :
    spread (F := Ideal) l (ix2 c n) = l (ix2 c 0) := by
  pointwise [spread]

theorem select_apply {α : Type} (i : IVec S5x1024 1) (a b : S5x1024.Idx → α) (j : S5x1024.Idx) :
    select i a b j = Scalar.select (i j) (a j) (b j) := rfl

theorem cmpf_lt_apply (a b : FVec Ideal S5x1024 .f32) (j : S5x1024.Idx) :
    cmpf .olt a b j = BitVec.ofBool (decide (a j < b j)) := rfl

theorem select_lt {α : Type} (p : Prop) [Decidable p] (a b : α) :
    Scalar.select (BitVec.ofBool (decide p)) a b = if p then a else b := by
  by_cases h : p <;> simp [h, Scalar.select]

theorem bestD_apply (x : FVec Ideal S5x1024 .f32) (l : ℕ → FVec Ideal S5x1 .f32) (c : Fin 5) (n : Fin 1024) : ∀ k,
    bestD (F := Ideal) x l k (ix2 c n)
      = dist (x (ix2 c n)) (l (near (x (ix2 c n)) (fun k => l k (ix2 c 0)) k) (ix2 c 0))
  | 0 => distV_apply x (l 0) c n
  | k + 1 => by
    rw [bestD, select_apply, cmpf_lt_apply, select_lt, bestD_apply x l c n k, distV_apply, near]
    split <;> rfl

theorem nearer_apply (x : FVec Ideal S5x1024 .f32) (l : ℕ → FVec Ideal S5x1 .f32) (c : Fin 5) (n : Fin 1024) (k : ℕ) :
    nearer (F := Ideal) x l k (ix2 c n) = BitVec.ofBool (decide (dist (x (ix2 c n)) (l (k + 1) (ix2 c 0))
      < dist (x (ix2 c n)) (l (near (x (ix2 c n)) (fun k => l k (ix2 c 0)) k) (ix2 c 0)))) := by
  rw [nearer, cmpf_lt_apply, bestD_apply, distV_apply]

theorem bestI_apply (x : FVec Ideal S5x1024 .f32) (l : ℕ → FVec Ideal S5x1 .f32) (c : Fin 5) (n : Fin 1024) : ∀ k,
    bestI (F := Ideal) x l k (ix2 c n) = BitVec.ofNat 32 (near (x (ix2 c n)) (fun k => l k (ix2 c 0)) k)
  | 0 => rfl
  | k + 1 => by
    rw [bestI, select_apply, nearer_apply, select_lt, bestI_apply x l c n k, near]
    split <;> rfl

theorem bestV_apply (x : FVec Ideal S5x1024 .f32) (l : ℕ → FVec Ideal S5x1 .f32) (c : Fin 5) (n : Fin 1024) : ∀ k,
    bestV (F := Ideal) x l k (ix2 c n) = l (near (x (ix2 c n)) (fun k => l k (ix2 c 0)) k) (ix2 c 0)
  | 0 => spread_apply (l 0) c n
  | k + 1 => by
    rw [bestV, select_apply, nearer_apply, select_lt, bestV_apply x l c n k, spread_apply, near]
    split <;> rfl

theorem outV_apply (w : FVec Ideal S5x768 .f32) (o : FVec Ideal S768x1 .f32) (q : FVec Ideal S5x1024 .f32) (d : Fin 768) (n : Fin 1024) :
    outV (F := Ideal) w o q (ix3 0 d n) = (∑ c : Fin 5, w (ix2 c d) * q (ix2 c n)) + o (ix2 d 0) := by
  pointwise [outV]

theorem sqV_eq (q x : FVec Ideal S5x1024 .f32) :
    sqV (F := Ideal) q x = ∑ c : Fin 5, ∑ n : Fin 1024, (q (ix2 c n) - x (ix2 c n)) * (q (ix2 c n) - x (ix2 c n)) := by
  pointwise [sqV]

theorem pay2_apply (p : EReal) : k0_pay2 (F := Ideal) p (ix3 0 0 0) = ((1 / 819200 : ℝ) : EReal) * p := by
  pointwise [k0_pay2]
  exact congrArg (· * p) (IdealRules.named_const.ideal_named_scalar (φ := .f32) κ "loss_scale" _ _ rfl)

end Cert.KernelIdeal.Chain

end
-- ==== Proof.KernelBlock.lean ====
/-
  One grid point's three output blocks at an index, from the six input blocks.
-/
module

public import proofs.«01_k».proof.Proof.KernelLevels
public import Idealize.ShloMosaic.Lib.Pipeline.ValueKit

@[expose] public section

set_option maxRecDepth 16384

noncomputable section

namespace Cert.KernelIdeal.Chain

open Cert.KernelIdeal Cert.KernelIdeal.Gen Idealize.ShloMosaic Cert.Proof

variable (x0 : FVec Ideal S4x768x1024 .f32) (x1 : FVec Ideal S5x768 .f32) (x2 : FVec Ideal S5x1 .f32) (x3 : FVec Ideal S5x768 .f32)
  (x4 : FVec Ideal S768x1 .f32) (x5 : FVec Ideal S5x8 .f32)

/-- The latent of sample `s` of the block. -/
def blockLat (s : Fin 4) (c : Fin 5) (n : Fin 1024) : EReal :=
  (∑ k : Fin 768, x1 (ix2 c k) * x0 (ix3 s k n)) + x2 (ix2 c 0)

/-- Row `c` of the table of levels; past the table's end its last entry. -/
def row (c : Fin 5) (k : ℕ) : EReal := tab (F := Ideal) x5 k (ix2 c 0)

theorem row_of_lt (c : Fin 5) (k : Fin 8) : row x5 c k.val = x5 (ix2 c k) := by
  fin_cases k <;> (unfold row tab cols; pointwise; try rfl)

/-- The level the block keeps for sample `s`. -/
def blockLevel (s : Fin 4) (c : Fin 5) (n : Fin 1024) : EReal :=
  row x5 c (near (blockLat x0 x1 x2 s c n) (row x5 c) 7)

theorem lat0_apply (c : Fin 5) (n : Fin 1024) : lat0 (F := Ideal) x0 x1 x2 (ix2 c n) = blockLat x0 x1 x2 0 c n := by
  unfold lat0
  rw [latV_apply]
  unfold blockLat
  pointwise

theorem lat1_apply (c : Fin 5) (n : Fin 1024) : lat1 (F := Ideal) x0 x1 x2 (ix2 c n) = blockLat x0 x1 x2 1 c n := by
  unfold lat1
  rw [latV_apply]
  unfold blockLat
  pointwise

theorem lat2_apply (c : Fin 5) (n : Fin 1024) : lat2 (F := Ideal) x0 x1 x2 (ix2 c n) = blockLat x0 x1 x2 2 c n := by
  unfold lat2
  rw [latV_apply]
  unfold blockLat
  pointwise

theorem lat3_apply (c : Fin 5) (n : Fin 1024) : lat3 (F := Ideal) x0 x1 x2 (ix2 c n) = blockLat x0 x1 x2 3 c n := by
  unfold lat3
  rw [latV_apply]
  unfold blockLat
  pointwise

theorem level_of_lat (x : FVec Ideal S5x1024 .f32) (s : Fin 4) (h : ∀ c n, x (ix2 c n) = blockLat x0 x1 x2 s c n) (c : Fin 5) (n : Fin 1024) :
    bestV (F := Ideal) x (tab x5) 7 (ix2 c n) = blockLevel x0 x1 x2 x5 s c n := by
  rw [bestV_apply, h]
  rfl

theorem code_of_lat (x : FVec Ideal S5x1024 .f32) (s : Fin 4) (h : ∀ c n, x (ix2 c n) = blockLat x0 x1 x2 s c n) (c : Fin 5) (n : Fin 1024) :
    bestI (F := Ideal) x (tab x5) 7 (ix2 c n) = BitVec.ofNat 32 (near (blockLat x0 x1 x2 s c n) (row x5 c) 7) := by
  rw [bestI_apply, h]
  rfl

/-- The output block. -/
def blockOut (s : Fin 4) (d : Fin 768) (n : Fin 1024) : EReal :=
  (∑ c : Fin 5, x3 (ix2 c d) * blockLevel x0 x1 x2 x5 s c n) + x4 (ix2 d 0)

theorem out_of_lat (w : FVec Ideal S5x768 .f32) (o : FVec Ideal S768x1 .f32) (hw : ∀ c d, w (ix2 c d) = x3 (ix2 c d))
    (ho : ∀ d, o (ix2 d 0) = x4 (ix2 d 0)) (x : FVec Ideal S5x1024 .f32) (s : Fin 4)
    (h : ∀ c n, x (ix2 c n) = blockLat x0 x1 x2 s c n) (d : Fin 768) (n : Fin 1024) :
    outV (F := Ideal) w o (bestV x (tab x5) 7) (ix3 0 d n) = blockOut x0 x1 x2 x3 x4 x5 s d n := by
  rw [outV_apply, ho]
  unfold blockOut
  refine Ideal.add_congr (Finset.sum_congr rfl fun c _ => ?_) rfl
  rw [hw, level_of_lat x0 x1 x2 x5 x s h c n]

/-- The sum of squares of one sample. -/
def blockSq (s : Fin 4) : EReal := ∑ c : Fin 5, ∑ n : Fin 1024,
  (blockLevel x0 x1 x2 x5 s c n - blockLat x0 x1 x2 s c n) * (blockLevel x0 x1 x2 x5 s c n - blockLat x0 x1 x2 s c n)

theorem sq_of_lat (x : FVec Ideal S5x1024 .f32) (s : Fin 4) (h : ∀ c n, x (ix2 c n) = blockLat x0 x1 x2 s c n) :
    sqV (F := Ideal) (bestV x (tab x5) 7) x = blockSq x0 x1 x2 x5 s := by
  rw [sqV_eq]
  unfold blockSq
  refine Finset.sum_congr rfl fun c _ => Finset.sum_congr rfl fun n _ => ?_
  rw [level_of_lat x0 x1 x2 x5 x s h c n, h]

/-- A stored piece is the slab of one sample: the buffer's index there. -/
theorem piece_at {M : ℕ} (x : (⟨3, ![1, M, 1024]⟩ : Shape).Idx) (s r : Fin 4) (d : Fin M) (n : Fin 1024)
    (h0 : s.val = r.val + (x 0).val) (hx : (x 0).val < 1) (h1 : d.val = (x 1).val) (h2 : n.val = (x 2).val) :
    x = ix3 0 d n ∧ s = r := by
  have hx' : (x 0).val = 0 := Nat.lt_one_iff.mp hx
  refine ⟨?_, Fin.ext (by rw [h0, hx', Nat.add_zero])⟩
  rw [eq_ix3 x]
  exact (ix3_inj ..).2 ⟨Fin.ext hx', Fin.ext h1.symm, Fin.ext h2.symm⟩

theorem codes_shape_apply (i : IVec S5x1024 32) (c : Fin 5) (n : Fin 1024) :
    shapeCast S1x5x1024 i shapeCasts_S5x1024_S1x5x1024 (ix3 0 c n) = i (ix2 c n) := by
  pointwise

/-- The block of codes. -/
def blockCode (s : Fin 4) (c : Fin 5) (n : Fin 1024) : BitVec 32 :=
  BitVec.ofNat 32 (near (blockLat x0 x1 x2 s c n) (row x5 c) 7)

/-- The loss block. -/
def blockLoss : EReal := ((1 / 819200 : ℝ) : EReal) * ∑ s : Fin 4, blockSq x0 x1 x2 x5 s

theorem out6_apply (s : Fin 4) (d : Fin 768) (n : Fin 1024) :
    out0_6 (F := Ideal) x0 x1 x2 x3 x4 x5 (ix3 s d n) = blockOut x0 x1 x2 x3 x4 x5 s d n := by
  unfold out0_6
  canon_tiles x h
  · rw [out_piece3]
    obtain ⟨e, rfl⟩ := piece_at x s 3 d n h0 x0_lt h1 h2
    rw [e]
    exact out_of_lat x0 x1 x2 x3 x4 x5 _ _ (fun c d => by pointwise) (fun d => by pointwise) _ 3 (lat3_apply x0 x1 x2) d n
  · rw [out_piece2]
    obtain ⟨e, rfl⟩ := piece_at x s 2 d n h0 x0_lt h1 h2
    rw [e]
    exact out_of_lat x0 x1 x2 x3 x4 x5 _ _ (fun c d => by pointwise) (fun d => by pointwise) _ 2 (lat2_apply x0 x1 x2) d n
  · rw [out_piece1]
    obtain ⟨e, rfl⟩ := piece_at x s 1 d n h0 x0_lt h1 h2
    rw [e]
    exact out_of_lat x0 x1 x2 x3 x4 x5 _ _ (fun c d => by pointwise) (fun d => by pointwise) _ 1 (lat1_apply x0 x1 x2) d n
  · rw [out_piece0]
    obtain ⟨e, rfl⟩ := piece_at x s 0 d n (h0.trans (Nat.zero_add _).symm) x0_lt h1 h2
    rw [e]
    exact out_of_lat x0 x1 x2 x3 x4 x5 _ _ (fun c d => by pointwise) (fun d => by pointwise) _ 0 (lat0_apply x0 x1 x2) d n

theorem out7_apply (s : Fin 4) (c : Fin 5) (n : Fin 1024) :
    out0_7 (F := Ideal) x0 x1 x2 x3 x4 x5 (ix3 s c n) = blockCode x0 x1 x2 x5 s c n := by
  unfold out0_7
  canon_tiles x h
  · rw [code_piece3]
    obtain ⟨e, rfl⟩ := piece_at x s 3 c n h0 x0_lt h1 h2
    rw [e, codes_shape_apply]
    exact code_of_lat x0 x1 x2 x5 _ 3 (lat3_apply x0 x1 x2) c n
  · rw [code_piece2]
    obtain ⟨e, rfl⟩ := piece_at x s 2 c n h0 x0_lt h1 h2
    rw [e, codes_shape_apply]
    exact code_of_lat x0 x1 x2 x5 _ 2 (lat2_apply x0 x1 x2) c n
  · rw [code_piece1]
    obtain ⟨e, rfl⟩ := piece_at x s 1 c n h0 x0_lt h1 h2
    rw [e, codes_shape_apply]
    exact code_of_lat x0 x1 x2 x5 _ 1 (lat1_apply x0 x1 x2) c n
  · rw [code_piece0]
    obtain ⟨e, rfl⟩ := piece_at x s 0 c n (h0.trans (Nat.zero_add _).symm) x0_lt h1 h2
    rw [e, codes_shape_apply]
    exact code_of_lat x0 x1 x2 x5 _ 0 (lat0_apply x0 x1 x2) c n

theorem out8_apply : out0_8 (F := Ideal) x0 x1 x2 x3 x4 x5 (ix3 0 0 0) = blockLoss x0 x1 x2 x5 := by
  unfold out0_8
  canon_tiles x h
  have e : x = ix3 0 0 0 := by
    rw [eq_ix3 x]
    exact (ix3_inj ..).2 ⟨Fin.ext h0.symm, Fin.ext h1.symm, Fin.ext h2.symm⟩
  rw [loss_piece, e, sq_of_lat x0 x1 x2 x5 _ 0 (lat0_apply x0 x1 x2), sq_of_lat x0 x1 x2 x5 _ 1 (lat1_apply x0 x1 x2),
    sq_of_lat x0 x1 x2 x5 _ 2 (lat2_apply x0 x1 x2), sq_of_lat x0 x1 x2 x5 _ 3 (lat3_apply x0 x1 x2)]
  refine (pay2_apply _).trans ?_
  unfold blockLoss
  rw [Fin.sum_univ_four]
  rfl

end Cert.KernelIdeal.Chain

end
-- ==== Proof.KernelHost.lean ====
/-
  What the kernel's six input windows hold at a grid point, element by element, in terms of the arguments.
-/
module

public import proofs.«01_k».proof.Proof.KernelBlock
public import Idealize.ShloMosaic.Lib.Claim

@[expose] public section

set_option maxRecDepth 16384

noncomputable section

namespace Cert.KernelIdeal.Host

open Cert.KernelIdeal Cert.KernelIdeal.Gen Idealize.ShloMosaic Idealize.ShloMosaic.TcCoe Cert.Proof

/-- The table of levels: five rows of eight, the short rows filled up. -/
def tableA (v0 v1 v2 : FVec Ideal S8 .f32) (v3 : FVec Ideal S6 .f32) (v4 : FVec Ideal S5 .f32) : FVec Ideal S5x8 .f32 :=
  concatenate S5x8 0
    [⟨S1x8, broadcastInDim S1x8 ![1] bcast_S8_S1x8_1 v0⟩, ⟨S1x8, broadcastInDim S1x8 ![1] bcast_S8_S1x8_1 v1⟩,
     ⟨S1x8, broadcastInDim S1x8 ![1] bcast_S8_S1x8_1 v2⟩,
     ⟨S1x8, broadcastInDim S1x8 ![1] bcast_S8_S1x8_1 (concatenate S8 0 [⟨S6, v3⟩, ⟨S2, broadcastInDim S2 ![] bcast_S_S2 (constant S_ .f32 0x7149F2CA#32)⟩] concatenates_S6_S2_S8_d0)⟩,
     ⟨S1x8, broadcastInDim S1x8 ![1] bcast_S8_S1x8_1 (concatenate S8 0 [⟨S5, v4⟩, ⟨S3, broadcastInDim S3 ![] bcast_S_S3 (constant S_ .f32 0x7149F2CA#32)⟩] concatenates_S5_S3_S8_d0)⟩]
    concatenates_S1x8_S1x8_S1x8_S1x8_S1x8_S5x8_d0

theorem tableA_apply (v0 v1 v2 : FVec Ideal S8 .f32) (v3 : FVec Ideal S6 .f32) (v4 : FVec Ideal S5 .f32) (c : Fin 5) (k : Fin 8) :
    tableA v0 v1 v2 v3 v4 (ix2 c k) = lev v0 v1 v2 v3 v4 c k.val := by
  rcases five_cases c with rfl | rfl | rfl | rfl | rfl <;> fin_cases k <;> (pointwise [tableA]; try rfl)

theorem transpose_at (w : FVec Ideal S768x5 .f32) (c : Fin 5) (k : Fin 768) :
    transpose S5x768 [1, 0] w transposes_S768x5_S5x768_1_0 (ix2 c k) = w (ix2 k c) := by
  pointwise

theorem flat_at (z : FVec Ideal S32x768x32x32 .f32) (b : Fin 32) (k : Fin 768) (n : Fin 1024) :
    shapeCast S32x768x1024 z shapeCasts_S32x768x32x32_S32x768x1024 (ix3 b k n)
      = z (ix4 b k ⟨n.val / 32, by omega⟩ ⟨n.val % 32, by omega⟩) := by
  pointwise

theorem col5_at (b : FVec Ideal S5 .f32) (c : Fin 5) : shapeCast S5x1 b shapeCasts_S5_S5x1 (ix2 c 0) = b (ix1 c) := by
  pointwise

theorem col768_at (b : FVec Ideal S768 .f32) (d : Fin 768) : shapeCast S768x1 b shapeCasts_S768_S768x1 (ix2 d 0) = b (ix1 d) := by
  pointwise

variable (m : (ℓ : Loc nD τ sig) → Buf (Elt Ideal) ℓ) (c : Dev nD)

theorem V_v0 : V m c main_v0 = shapeCast S32x768x1024 (m ((c : Thread nD τ).loc main_arg0) : FVec Ideal S32x768x32x32 .f32) shapeCasts_S32x768x32x32_S32x768x1024 := by
  entry_read
  rfl

theorem V_v1 : V m c main_v1 = transpose S5x768 [1, 0] (m ((c : Thread nD τ).loc main_arg1) : FVec Ideal S768x5 .f32) transposes_S768x5_S5x768_1_0 := by
  entry_read
  rfl

theorem V_v12 : V m c main_v12 = shapeCast S5x1 (m ((c : Thread nD τ).loc main_arg2) : FVec Ideal S5 .f32) shapeCasts_S5_S5x1 := by
  entry_read
  rfl

theorem V_v13 : V m c main_v13 = shapeCast S768x1 (m ((c : Thread nD τ).loc main_arg4) : FVec Ideal S768 .f32) shapeCasts_S768_S768x1 := by
  entry_read
  rfl

theorem V_v11 : V m c main_v11 = tableA (m ((c : Thread nD τ).loc main_arg5)) (m ((c : Thread nD τ).loc main_arg6))
    (m ((c : Thread nD τ).loc main_arg7)) (m ((c : Thread nD τ).loc main_arg8)) (m ((c : Thread nD τ).loc main_arg9)) := by
  entry_read
  rfl

/-- The windows' block numbers. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0]
    ∧ win0_7.index t = ![t.val, 0, 0] ∧ win0_8.index t = ![t.val, 0, 0] :=
  (by decide +kernel : ∀ t : Fin grid0.N, _)

theorem point_lt (t : Fin cfg0.N) : t.val < 8 := by
  have h := t.isLt
  have e : cfg0.N = 8 := N_0
  omega

/-- The sample that a grid point's block has at place `s`. -/
def sample (t : Fin cfg0.N) (s : Fin 4) : Fin 32 := ⟨t.val * 4 + s.val, by have := point_lt t; omega⟩

theorem blk0 (t : Fin cfg0.N) (s : Fin 4) (k : Fin 768) (n : Fin 1024) :
    iblk m c 0 t (ix3 s k n) = (m ((c : Thread nD τ).loc main_arg0) : FVec Ideal S32x768x32x32 .f32)
      (ix4 (sample t s) k ⟨n.val / 32, by omega⟩ ⟨n.val % 32, by omega⟩) := by
  refine Eq.trans ?_ ((congrFun (V_v0 m c) (ix3 (sample t s) k n)).trans (flat_at _ (sample t s) k n))
  blk_ext [iblk, idx t, sample]

theorem blk1 (t : Fin cfg0.N) (r : Fin 5) (k : Fin 768) :
    iblk m c 1 t (ix2 r k) = (m ((c : Thread nD τ).loc main_arg1) : FVec Ideal S768x5 .f32) (ix2 k r) := by
  refine Eq.trans ?_ ((congrFun (V_v1 m c) (ix2 r k)).trans (transpose_at _ r k))
  blk_ext [iblk, idx t]

theorem blk2 (t : Fin cfg0.N) (r : Fin 5) :
    iblk m c 2 t (ix2 r 0) = (m ((c : Thread nD τ).loc main_arg2) : FVec Ideal S5 .f32) (ix1 r) := by
  refine Eq.trans ?_ ((congrFun (V_v12 m c) (ix2 r 0)).trans (col5_at _ r))
  blk_ext [iblk, idx t]

theorem blk3 (t : Fin cfg0.N) (r : Fin 5) (d : Fin 768) :
    iblk m c 3 t (ix2 r d) = (m ((c : Thread nD τ).loc main_arg3) : FVec Ideal S5x768 .f32) (ix2 r d) := by
  refine Eq.trans ?_ (congrFun (V_main_arg3 m c) (ix2 r d))
  blk_ext [iblk, idx t]

theorem blk4 (t : Fin cfg0.N) (d : Fin 768) :
    iblk m c 4 t (ix2 d 0) = (m ((c : Thread nD τ).loc main_arg4) : FVec Ideal S768 .f32) (ix1 d) := by
  refine Eq.trans ?_ ((congrFun (V_v13 m c) (ix2 d 0)).trans (col768_at _ d))
  blk_ext [iblk, idx t]

theorem blk5 (t : Fin cfg0.N) (r : Fin 5) (k : Fin 8) :
    iblk m c 5 t (ix2 r k) = lev (m ((c : Thread nD τ).loc main_arg5)) (m ((c : Thread nD τ).loc main_arg6))
      (m ((c : Thread nD τ).loc main_arg7)) (m ((c : Thread nD τ).loc main_arg8)) (m ((c : Thread nD τ).loc main_arg9)) r k.val := by
  refine Eq.trans ?_ ((congrFun (V_v11 m c) (ix2 r k)).trans (tableA_apply _ _ _ _ _ r k))
  blk_ext [iblk, idx t]

end Cert.KernelIdeal.Host

end
-- ==== Proof.RefOps.lean ====
/-
  The reference program's @main as lists of its host operations, block by block in the order they run: the latent
  array, then for each of the five columns its distances, the index of the nearest level and the level read at that
  index, then the two stacks, the loss and the two reshaped results. A function @main calls is a list over its
  arguments and one call's buffers, stated once for each number of levels.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The index of the least of 8 distances, as one call runs it. -/
abbrev argminOps8 (arg0 : TRef sig ⟨S32x1024x1x8, .f32⟩) (φ : fn_argmin.Bufs) : List (HloOp τ sig (Elt F)) :=
  [ TRef.nullary φ.v0 (iotaInDim S32x1024x1x8 32 3),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S32x1024x1x8_S32x1024x1_d3 h_S_ j).1),
    TRef.quaternary arg0 φ.v0 φ.cst φ.c φ.v1_1 (fun x y u v j => (Host.argReduce reducer_argmin_f32_i32 x y u v reducesTo_S32x1024x1x8_S32x1024x1_d3 h_S_ j).2) ]

theorem argminOps8_bufs (arg0 : TRef sig ⟨S32x1024x1x8, .f32⟩) (φ : fn_argmin.Bufs) : (argminOps8 arg0 φ : List (HloOp τ sig (Elt F))).Forall fun op => op.bufs ⊆ tcRefs τ sig :=
  ⟨nullary_bufs_sub .., nullary_bufs_sub .., nullary_bufs_sub .., quaternary_bufs_sub .., quaternary_bufs_sub ..⟩

/-- The index of the least of 6 distances, as one call runs it. -/
abbrev argminOps6 (arg0 : TRef sig ⟨S32x1024x1x6, .f32⟩) (φ : fn_argmin_0.Bufs) : List (HloOp τ sig (Elt F)) :=
  [ TRef.nullary φ.v0 (iotaInDim S32x1024x1x6 32 3),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S32x1024x1x6_S32x1024x1_d3 h_S_ j).1),
    TRef.quaternary arg0 φ.v0 φ.cst φ.c φ.v1_1 (fun x y u v j => (Host.argReduce reducer_argmin_f32_i32 x y u v reducesTo_S32x1024x1x6_S32x1024x1_d3 h_S_ j).2) ]

theorem argminOps6_bufs (arg0 : TRef sig ⟨S32x1024x1x6, .f32⟩) (φ : fn_argmin_0.Bufs) : (argminOps6 arg0 φ : List (HloOp τ sig (Elt F))).Forall fun op => op.bufs ⊆ tcRefs τ sig :=
  ⟨nullary_bufs_sub .., nullary_bufs_sub .., nullary_bufs_sub .., quaternary_bufs_sub .., quaternary_bufs_sub ..⟩

/-- The index of the least of 5 distances, as one call runs it. -/
abbrev argminOps5 (arg0 : TRef sig ⟨S32x1024x1x5, .f32⟩) (φ : fn_argmin_2.Bufs) : List (HloOp τ sig (Elt F)) :=
  [ TRef.nullary φ.v0 (iotaInDim S32x1024x1x5 32 3),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S32x1024x1x5_S32x1024x1_d3 h_S_ j).1),
    TRef.quaternary arg0 φ.v0 φ.cst φ.c φ.v1_1 (fun x y u v j => (Host.argReduce reducer_argmin_f32_i32 x y u v reducesTo_S32x1024x1x5_S32x1024x1_d3 h_S_ j).2) ]

theorem argminOps5_bufs (arg0 : TRef sig ⟨S32x1024x1x5, .f32⟩) (φ : fn_argmin_2.Bufs) : (argminOps5 arg0 φ : List (HloOp τ sig (Elt F))).Forall fun op => op.bufs ⊆ tcRefs τ sig :=
  ⟨nullary_bufs_sub .., nullary_bufs_sub .., nullary_bufs_sub .., quaternary_bufs_sub .., quaternary_bufs_sub ..⟩

/-- The level read at an index into 8 levels, as one call runs it. -/
abbrev takeOps8 (arg0 : TRef sig ⟨S8, .f32⟩) (arg1 : TRef sig ⟨S32x1024x1, .i32⟩) (φ : fn_take.Bufs) : List (HloOp τ sig (Elt F)) :=
  [ TRef.nullary φ.c (constantI S_ 32 0#32),
    TRef.unary φ.c φ.v0 (broadcastInDim S32x1024x1 ![] bcast_S_S32x1024x1),
    TRef.binary arg1 φ.v0 φ.v1 (cmpi .slt),
    TRef.nullary φ.c_0 (constantI S_ 32 8#32),
    TRef.unary φ.c_0 φ.v2 (broadcastInDim S32x1024x1 ![] bcast_S_S32x1024x1),
    TRef.binary arg1 φ.v2 φ.v3 addi,
    TRef.ternary φ.v1 φ.v3 arg1 φ.call0.v0 select,
    TRef.unary φ.call0.v0 φ.v5 (broadcastInDim S32x1024x1x1 ![0, 1, 2] bcast_S32x1024x1_S32x1024x1x1_0_1_2),
    TRef.nullary φ.c_1 (constantI S1 32 7#32),
    TRef.nullary φ.c_2 (constantI S_ 32 0#32),
    TRef.unary φ.c_2 φ.v6 (broadcastInDim S32x1024x1x1 ![] bcast_S_S32x1024x1x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S32x1024x1x1 ![0, 1, 2, 3] bcast_S1x1x1x1_S32x1024x1x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S32x1024x1x1_S32x1024x1_d3 h_S_),
    TRef.binary arg0 φ.v5 φ.v13 (fun x i => Host.gather gather_S8_S32x1024x1x1_S32x1024x1_n_0_n_n_0_3_1 x i),
    TRef.nullary φ.cst (constant S_ .f32 0x7FC00000#32),
    TRef.unary φ.cst φ.v14 (broadcastInDim S32x1024x1 ![] bcast_S_S32x1024x1),
    TRef.ternary φ.v12 φ.v13 φ.v14 φ.v15 select ]

theorem takeOps8_bufs (arg0 : TRef sig ⟨S8, .f32⟩) (arg1 : TRef sig ⟨S32x1024x1, .i32⟩) (φ : fn_take.Bufs) : (takeOps8 arg0 arg1 φ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The level read at an index into 6 levels, as one call runs it. -/
abbrev takeOps6 (arg0 : TRef sig ⟨S6, .f32⟩) (arg1 : TRef sig ⟨S32x1024x1, .i32⟩) (φ : fn_take_1.Bufs) : List (HloOp τ sig (Elt F)) :=
  [ TRef.nullary φ.c (constantI S_ 32 0#32),
    TRef.unary φ.c φ.v0 (broadcastInDim S32x1024x1 ![] bcast_S_S32x1024x1),
    TRef.binary arg1 φ.v0 φ.v1 (cmpi .slt),
    TRef.nullary φ.c_0 (constantI S_ 32 6#32),
    TRef.unary φ.c_0 φ.v2 (broadcastInDim S32x1024x1 ![] bcast_S_S32x1024x1),
    TRef.binary arg1 φ.v2 φ.v3 addi,
    TRef.ternary φ.v1 φ.v3 arg1 φ.call0.v0 select,
    TRef.unary φ.call0.v0 φ.v5 (broadcastInDim S32x1024x1x1 ![0, 1, 2] bcast_S32x1024x1_S32x1024x1x1_0_1_2),
    TRef.nullary φ.c_1 (constantI S1 32 5#32),
    TRef.nullary φ.c_2 (constantI S_ 32 0#32),
    TRef.unary φ.c_2 φ.v6 (broadcastInDim S32x1024x1x1 ![] bcast_S_S32x1024x1x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S32x1024x1x1 ![0, 1, 2, 3] bcast_S1x1x1x1_S32x1024x1x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S32x1024x1x1_S32x1024x1_d3 h_S_),
    TRef.binary arg0 φ.v5 φ.v13 (fun x i => Host.gather gather_S6_S32x1024x1x1_S32x1024x1_n_0_n_n_0_3_1 x i),
    TRef.nullary φ.cst (constant S_ .f32 0x7FC00000#32),
    TRef.unary φ.cst φ.v14 (broadcastInDim S32x1024x1 ![] bcast_S_S32x1024x1),
    TRef.ternary φ.v12 φ.v13 φ.v14 φ.v15 select ]

theorem takeOps6_bufs (arg0 : TRef sig ⟨S6, .f32⟩) (arg1 : TRef sig ⟨S32x1024x1, .i32⟩) (φ : fn_take_1.Bufs) : (takeOps6 arg0 arg1 φ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The level read at an index into 5 levels, as one call runs it. -/
abbrev takeOps5 (arg0 : TRef sig ⟨S5, .f32⟩) (arg1 : TRef sig ⟨S32x1024x1, .i32⟩) (φ : fn_take_3.Bufs) : List (HloOp τ sig (Elt F)) :=
  [ TRef.nullary φ.c (constantI S_ 32 0#32),
    TRef.unary φ.c φ.v0 (broadcastInDim S32x1024x1 ![] bcast_S_S32x1024x1),
    TRef.binary arg1 φ.v0 φ.v1 (cmpi .slt),
    TRef.nullary φ.c_0 (constantI S_ 32 5#32),
    TRef.unary φ.c_0 φ.v2 (broadcastInDim S32x1024x1 ![] bcast_S_S32x1024x1),
    TRef.binary arg1 φ.v2 φ.v3 addi,
    TRef.ternary φ.v1 φ.v3 arg1 φ.call0.v0 select,
    TRef.unary φ.call0.v0 φ.v5 (broadcastInDim S32x1024x1x1 ![0, 1, 2] bcast_S32x1024x1_S32x1024x1x1_0_1_2),
    TRef.nullary φ.c_1 (constantI S1 32 4#32),
    TRef.nullary φ.c_2 (constantI S_ 32 0#32),
    TRef.unary φ.c_2 φ.v6 (broadcastInDim S32x1024x1x1 ![] bcast_S_S32x1024x1x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S32x1024x1x1 ![0, 1, 2, 3] bcast_S1x1x1x1_S32x1024x1x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S32x1024x1x1_S32x1024x1_d3 h_S_),
    TRef.binary arg0 φ.v5 φ.v13 (fun x i => Host.gather gather_S5_S32x1024x1x1_S32x1024x1_n_0_n_n_0_3_1 x i),
    TRef.nullary φ.cst (constant S_ .f32 0x7FC00000#32),
    TRef.unary φ.cst φ.v14 (broadcastInDim S32x1024x1 ![] bcast_S_S32x1024x1),
    TRef.ternary φ.v12 φ.v13 φ.v14 φ.v15 select ]

theorem takeOps5_bufs (arg0 : TRef sig ⟨S5, .f32⟩) (arg1 : TRef sig ⟨S32x1024x1, .i32⟩) (φ : fn_take_3.Bufs) : (takeOps5 arg0 arg1 φ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The latent array: samples flattened, the input projection and its offset. -/
abbrev headOps : List (HloOp τ sig (Elt F)) :=
  [ unary main_arg0 main_v0 ((transpose S32x32x32x768 [0, 2, 3, 1] · transposes_S32x768x32x32_S32x32x32x768_0_2_3_1) : (⟨S32x768x32x32, .f32⟩ : BufTy).Contents (Elt F) → (⟨S32x32x32x768, .f32⟩ : BufTy).Contents (Elt F)),
    reshape main_v0 main_v1 (rfl : (.f32 : EltTy) = .f32) shapeCasts_S32x32x32x768_S32x1024x768,
    binary main_v1 main_arg1 main_v2 ((fun l r => Host.dotGeneral dot_S32x1024x768_S768x5_S32x1024x5_2_0_01_1_n_n none l r) : (⟨S32x1024x768, .f32⟩ : BufTy).Contents (Elt F) → (⟨S768x5, .f32⟩ : BufTy).Contents (Elt F) → (⟨S32x1024x5, .f32⟩ : BufTy).Contents (Elt F)),
    unary main_arg2 main_v3 (broadcastInDim S1x1x5 ![2] bcast_S5_S1x1x5_2 : (⟨S5, .f32⟩ : BufTy).Contents (Elt F) → (⟨S1x1x5, .f32⟩ : BufTy).Contents (Elt F)),
    unary main_v3 main_v4 (broadcastInDim S32x1024x5 ![0, 1, 2] bcast_S1x1x5_S32x1024x5_0_1_2 : (⟨S1x1x5, .f32⟩ : BufTy).Contents (Elt F) → (⟨S32x1024x5, .f32⟩ : BufTy).Contents (Elt F)),
    binary main_v2 main_v4 main_v5 (addf : (⟨S32x1024x5, .f32⟩ : BufTy).Contents (Elt F) → (⟨S32x1024x5, .f32⟩ : BufTy).Contents (Elt F) → (⟨S32x1024x5, .f32⟩ : BufTy).Contents (Elt F)),
    unary main_v5 main_v6 (broadcastInDim S32x1024x1x5 ![0, 1, 3] bcast_S32x1024x5_S32x1024x1x5_0_1_3 : (⟨S32x1024x5, .f32⟩ : BufTy).Contents (Elt F) → (⟨S32x1024x1x5, .f32⟩ : BufTy).Contents (Elt F)) ]

theorem headOps_bufs : (headOps : List (HloOp τ sig (Elt F))).Forall fun op => op.bufs ⊆ tcRefs τ sig :=
  ⟨unary_bufs_sub .., reshape_bufs_sub .., binary_bufs_sub .., unary_bufs_sub .., unary_bufs_sub .., binary_bufs_sub .., unary_bufs_sub ..⟩

/-- Column 0: the distance of its latent to each of its levels. -/
abbrev distOps0 : List (HloOp τ sig (Elt F)) :=
  [ unary main_v6 main_v7 ((extractStridedSlice S32x1024x1x1 ![0, 0, 0, 0] · slices_S32x1024x1x5_S32x1024x1x1_0_0_0_0) : (⟨S32x1024x1x5, .f32⟩ : BufTy).Contents (Elt F) → (⟨S32x1024x1x1, .f32⟩ : BufTy).Contents (Elt F)),
    reshape main_v7 main_v8 (rfl : (.f32 : EltTy) = .f32) shapeCasts_S32x1024x1x1_S32x1024x1,
    unary main_v8 main_v9 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_arg5 main_v10 (broadcastInDim S1x1x1x8 ![3] bcast_S8_S1x1x1x8_3 : (⟨S8, .f32⟩ : BufTy).Contents (Elt F) → (⟨S1x1x1x8, .f32⟩ : BufTy).Contents (Elt F)),
    unary main_v9 main_v11 (broadcastInDim S32x1024x1x8 ![0, 1, 2, 3] bcast_S32x1024x1x1_S32x1024x1x8_0_1_2_3 : (⟨S32x1024x1x1, .f32⟩ : BufTy).Contents (Elt F) → (⟨S32x1024x1x8, .f32⟩ : BufTy).Contents (Elt F)),
    unary main_v10 main_v12 (broadcastInDim S32x1024x1x8 ![0, 1, 2, 3] bcast_S1x1x1x8_S32x1024x1x8_0_1_2_3 : (⟨S1x1x1x8, .f32⟩ : BufTy).Contents (Elt F) → (⟨S32x1024x1x8, .f32⟩ : BufTy).Contents (Elt F)),
    binary main_v11 main_v12 main_v13 (subf : (⟨S32x1024x1x8, .f32⟩ : BufTy).Contents (Elt F) → (⟨S32x1024x1x8, .f32⟩ : BufTy).Contents (Elt F) → (⟨S32x1024x1x8, .f32⟩ : BufTy).Contents (Elt F)),
    unary main_v13 main_v14 (Host.absf : (⟨S32x1024x1x8, .f32⟩ : BufTy).Contents (Elt F) → (⟨S32x1024x1x8, .f32⟩ : BufTy).Contents (Elt F)) ]

theorem distOps0_bufs : (distOps0 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub ..⟩

/-- Column 0: its call for the nearest level’s index. -/
abbrev indexOps0 : List (HloOp τ sig (Elt F)) := argminOps8 (.of main_v14) main_call0

theorem indexOps0_bufs : (indexOps0 : List (HloOp τ sig (Elt F))).Forall fun op => op.bufs ⊆ tcRefs τ sig := argminOps8_bufs ..

/-- Column 0: its call for the level at that index. -/
abbrev levelOps0 : List (HloOp τ sig (Elt F)) := takeOps8 (.of main_arg5) (.of main_v15) main_call1

theorem levelOps0_bufs : (levelOps0 : List (HloOp τ sig (Elt F))).Forall fun op => op.bufs ⊆ tcRefs τ sig := takeOps8_bufs ..

/-- Column 1: the distance of its latent to each of its levels. -/
abbrev distOps1 : List (HloOp τ sig (Elt F)) :=
  [ unary main_v6 main_v17 ((extractStridedSlice S32x1024x1x1 ![0, 0, 0, 1] · slices_S32x1024x1x5_S32x1024x1x1_0_0_0_1) : (⟨S32x1024x1x5, .f32⟩ : BufTy).Contents (Elt F) → (⟨S32x1024x1x1, .f32⟩ : BufTy).Contents (Elt F)),
    reshape main_v17 main_v18 (rfl : (.f32 : EltTy) = .f32) shapeCasts_S32x1024x1x1_S32x1024x1,
    unary main_v18 main_v19 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_arg6 main_v20 (broadcastInDim S1x1x1x8 ![3] bcast_S8_S1x1x1x8_3 : (⟨S8, .f32⟩ : BufTy).Contents (Elt F) → (⟨S1x1x1x8, .f32⟩ : BufTy).Contents (Elt F)),
    unary main_v19 main_v21 (broadcastInDim S32x1024x1x8 ![0, 1, 2, 3] bcast_S32x1024x1x1_S32x1024x1x8_0_1_2_3 : (⟨S32x1024x1x1, .f32⟩ : BufTy).Contents (Elt F) → (⟨S32x1024x1x8, .f32⟩ : BufTy).Contents (Elt F)),
    unary main_v20 main_v22 (broadcastInDim S32x1024x1x8 ![0, 1, 2, 3] bcast_S1x1x1x8_S32x1024x1x8_0_1_2_3 : (⟨S1x1x1x8, .f32⟩ : BufTy).Contents (Elt F) → (⟨S32x1024x1x8, .f32⟩ : BufTy).Contents (Elt F)),
    binary main_v21 main_v22 main_v23 (subf : (⟨S32x1024x1x8, .f32⟩ : BufTy).Contents (Elt F) → (⟨S32x1024x1x8, .f32⟩ : BufTy).Contents (Elt F) → (⟨S32x1024x1x8, .f32⟩ : BufTy).Contents (Elt F)),
    unary main_v23 main_v24 (Host.absf : (⟨S32x1024x1x8, .f32⟩ : BufTy).Contents (Elt F) → (⟨S32x1024x1x8, .f32⟩ : BufTy).Contents (Elt F)) ]

theorem distOps1_bufs : (distOps1 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub ..⟩

/-- Column 1: its call for the nearest level’s index. -/
abbrev indexOps1 : List (HloOp τ sig (Elt F)) := argminOps8 (.of main_v24) main_call2

theorem indexOps1_bufs : (indexOps1 : List (HloOp τ sig (Elt F))).Forall fun op => op.bufs ⊆ tcRefs τ sig := argminOps8_bufs ..

/-- Column 1: its call for the level at that index. -/
abbrev levelOps1 : List (HloOp τ sig (Elt F)) := takeOps8 (.of main_arg6) (.of main_v25) main_call3

theorem levelOps1_bufs : (levelOps1 : List (HloOp τ sig (Elt F))).Forall fun op => op.bufs ⊆ tcRefs τ sig := takeOps8_bufs ..

/-- Column 2: the distance of its latent to each of its levels. -/
abbrev distOps2 : List (HloOp τ sig (Elt F)) :=
  [ unary main_v6 main_v27 ((extractStridedSlice S32x1024x1x1 ![0, 0, 0, 2] · slices_S32x1024x1x5_S32x1024x1x1_0_0_0_2) : (⟨S32x1024x1x5, .f32⟩ : BufTy).Contents (Elt F) → (⟨S32x1024x1x1, .f32⟩ : BufTy).Contents (Elt F)),
    reshape main_v27 main_v28 (rfl : (.f32 : EltTy) = .f32) shapeCasts_S32x1024x1x1_S32x1024x1,
    unary main_v28 main_v29 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_arg7 main_v30 (broadcastInDim S1x1x1x8 ![3] bcast_S8_S1x1x1x8_3 : (⟨S8, .f32⟩ : BufTy).Contents (Elt F) → (⟨S1x1x1x8, .f32⟩ : BufTy).Contents (Elt F)),
    unary main_v29 main_v31 (broadcastInDim S32x1024x1x8 ![0, 1, 2, 3] bcast_S32x1024x1x1_S32x1024x1x8_0_1_2_3 : (⟨S32x1024x1x1, .f32⟩ : BufTy).Contents (Elt F) → (⟨S32x1024x1x8, .f32⟩ : BufTy).Contents (Elt F)),
    unary main_v30 main_v32 (broadcastInDim S32x1024x1x8 ![0, 1, 2, 3] bcast_S1x1x1x8_S32x1024x1x8_0_1_2_3 : (⟨S1x1x1x8, .f32⟩ : BufTy).Contents (Elt F) → (⟨S32x1024x1x8, .f32⟩ : BufTy).Contents (Elt F)),
    binary main_v31 main_v32 main_v33 (subf : (⟨S32x1024x1x8, .f32⟩ : BufTy).Contents (Elt F) → (⟨S32x1024x1x8, .f32⟩ : BufTy).Contents (Elt F) → (⟨S32x1024x1x8, .f32⟩ : BufTy).Contents (Elt F)),
    unary main_v33 main_v34 (Host.absf : (⟨S32x1024x1x8, .f32⟩ : BufTy).Contents (Elt F) → (⟨S32x1024x1x8, .f32⟩ : BufTy).Contents (Elt F)) ]

theorem distOps2_bufs : (distOps2 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub ..⟩

/-- Column 2: its call for the nearest level’s index. -/
abbrev indexOps2 : List (HloOp τ sig (Elt F)) := argminOps8 (.of main_v34) main_call4

theorem indexOps2_bufs : (indexOps2 : List (HloOp τ sig (Elt F))).Forall fun op => op.bufs ⊆ tcRefs τ sig := argminOps8_bufs ..

/-- Column 2: its call for the level at that index. -/
abbrev levelOps2 : List (HloOp τ sig (Elt F)) := takeOps8 (.of main_arg7) (.of main_v35) main_call5

theorem levelOps2_bufs : (levelOps2 : List (HloOp τ sig (Elt F))).Forall fun op => op.bufs ⊆ tcRefs τ sig := takeOps8_bufs ..

/-- Column 3: the distance of its latent to each of its levels. -/
abbrev distOps3 : List (HloOp τ sig (Elt F)) :=
  [ unary main_v6 main_v37 ((extractStridedSlice S32x1024x1x1 ![0, 0, 0, 3] · slices_S32x1024x1x5_S32x1024x1x1_0_0_0_3) : (⟨S32x1024x1x5, .f32⟩ : BufTy).Contents (Elt F) → (⟨S32x1024x1x1, .f32⟩ : BufTy).Contents (Elt F)),
    reshape main_v37 main_v38 (rfl : (.f32 : EltTy) = .f32) shapeCasts_S32x1024x1x1_S32x1024x1,
    unary main_v38 main_v39 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_arg8 main_v40 (broadcastInDim S1x1x1x6 ![3] bcast_S6_S1x1x1x6_3 : (⟨S6, .f32⟩ : BufTy).Contents (Elt F) → (⟨S1x1x1x6, .f32⟩ : BufTy).Contents (Elt F)),
    unary main_v39 main_v41 (broadcastInDim S32x1024x1x6 ![0, 1, 2, 3] bcast_S32x1024x1x1_S32x1024x1x6_0_1_2_3 : (⟨S32x1024x1x1, .f32⟩ : BufTy).Contents (Elt F) → (⟨S32x1024x1x6, .f32⟩ : BufTy).Contents (Elt F)),
    unary main_v40 main_v42 (broadcastInDim S32x1024x1x6 ![0, 1, 2, 3] bcast_S1x1x1x6_S32x1024x1x6_0_1_2_3 : (⟨S1x1x1x6, .f32⟩ : BufTy).Contents (Elt F) → (⟨S32x1024x1x6, .f32⟩ : BufTy).Contents (Elt F)),
    binary main_v41 main_v42 main_v43 (subf : (⟨S32x1024x1x6, .f32⟩ : BufTy).Contents (Elt F) → (⟨S32x1024x1x6, .f32⟩ : BufTy).Contents (Elt F) → (⟨S32x1024x1x6, .f32⟩ : BufTy).Contents (Elt F)),
    unary main_v43 main_v44 (Host.absf : (⟨S32x1024x1x6, .f32⟩ : BufTy).Contents (Elt F) → (⟨S32x1024x1x6, .f32⟩ : BufTy).Contents (Elt F)) ]

theorem distOps3_bufs : (distOps3 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub ..⟩

/-- Column 3: its call for the nearest level’s index. -/
abbrev indexOps3 : List (HloOp τ sig (Elt F)) := argminOps6 (.of main_v44) main_call6

theorem indexOps3_bufs : (indexOps3 : List (HloOp τ sig (Elt F))).Forall fun op => op.bufs ⊆ tcRefs τ sig := argminOps6_bufs ..

/-- Column 3: its call for the level at that index. -/
abbrev levelOps3 : List (HloOp τ sig (Elt F)) := takeOps6 (.of main_arg8) (.of main_v45) main_call7

theorem levelOps3_bufs : (levelOps3 : List (HloOp τ sig (Elt F))).Forall fun op => op.bufs ⊆ tcRefs τ sig := takeOps6_bufs ..

/-- Column 4: the distance of its latent to each of its levels. -/
abbrev distOps4 : List (HloOp τ sig (Elt F)) :=
  [ unary main_v6 main_v47 ((extractStridedSlice S32x1024x1x1 ![0, 0, 0, 4] · slices_S32x1024x1x5_S32x1024x1x1_0_0_0_4) : (⟨S32x1024x1x5, .f32⟩ : BufTy).Contents (Elt F) → (⟨S32x1024x1x1, .f32⟩ : BufTy).Contents (Elt F)),
    reshape main_v47 main_v48 (rfl : (.f32 : EltTy) = .f32) shapeCasts_S32x1024x1x1_S32x1024x1,
    unary main_v48 main_v49 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_arg9 main_v50 (broadcastInDim S1x1x1x5 ![3] bcast_S5_S1x1x1x5_3 : (⟨S5, .f32⟩ : BufTy).Contents (Elt F) → (⟨S1x1x1x5, .f32⟩ : BufTy).Contents (Elt F)),
    unary main_v49 main_v51 (broadcastInDim S32x1024x1x5 ![0, 1, 2, 3] bcast_S32x1024x1x1_S32x1024x1x5_0_1_2_3 : (⟨S32x1024x1x1, .f32⟩ : BufTy).Contents (Elt F) → (⟨S32x1024x1x5, .f32⟩ : BufTy).Contents (Elt F)),
    unary main_v50 main_v52 (broadcastInDim S32x1024x1x5 ![0, 1, 2, 3] bcast_S1x1x1x5_S32x1024x1x5_0_1_2_3 : (⟨S1x1x1x5, .f32⟩ : BufTy).Contents (Elt F) → (⟨S32x1024x1x5, .f32⟩ : BufTy).Contents (Elt F)),
    binary main_v51 main_v52 main_v53 (subf : (⟨S32x1024x1x5, .f32⟩ : BufTy).Contents (Elt F) → (⟨S32x1024x1x5, .f32⟩ : BufTy).Contents (Elt F) → (⟨S32x1024x1x5, .f32⟩ : BufTy).Contents (Elt F)),
    unary main_v53 main_v54 (Host.absf : (⟨S32x1024x1x5, .f32⟩ : BufTy).Contents (Elt F) → (⟨S32x1024x1x5, .f32⟩ : BufTy).Contents (Elt F)) ]

theorem distOps4_bufs : (distOps4 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub ..⟩

/-- Column 4: its call for the nearest level’s index. -/
abbrev indexOps4 : List (HloOp τ sig (Elt F)) := argminOps5 (.of main_v54) main_call8

theorem indexOps4_bufs : (indexOps4 : List (HloOp τ sig (Elt F))).Forall fun op => op.bufs ⊆ tcRefs τ sig := argminOps5_bufs ..

/-- Column 4: its call for the level at that index. -/
abbrev levelOps4 : List (HloOp τ sig (Elt F)) := takeOps5 (.of main_arg9) (.of main_v55) main_call9

theorem levelOps4_bufs : (levelOps4 : List (HloOp τ sig (Elt F))).Forall fun op => op.bufs ⊆ tcRefs τ sig := takeOps5_bufs ..

/-- The first three columns’ indices given an axis to be stacked on. -/
abbrev stackOpsA : List (HloOp τ sig (Elt F)) :=
  [ unary main_v15 main_v57 (broadcastInDim S32x1024x1x1 ![0, 1, 2] bcast_S32x1024x1_S32x1024x1x1_0_1_2 : (⟨S32x1024x1, .i32⟩ : BufTy).Contents (Elt F) → (⟨S32x1024x1x1, .i32⟩ : BufTy).Contents (Elt F)),
    unary main_v25 main_v58 (broadcastInDim S32x1024x1x1 ![0, 1, 2] bcast_S32x1024x1_S32x1024x1x1_0_1_2 : (⟨S32x1024x1, .i32⟩ : BufTy).Contents (Elt F) → (⟨S32x1024x1x1, .i32⟩ : BufTy).Contents (Elt F)),
    unary main_v35 main_v59 (broadcastInDim S32x1024x1x1 ![0, 1, 2] bcast_S32x1024x1_S32x1024x1x1_0_1_2 : (⟨S32x1024x1, .i32⟩ : BufTy).Contents (Elt F) → (⟨S32x1024x1x1, .i32⟩ : BufTy).Contents (Elt F)) ]

theorem stackOpsA_bufs : (stackOpsA : List (HloOp τ sig (Elt F))).Forall fun op => op.bufs ⊆ tcRefs τ sig :=
  ⟨unary_bufs_sub .., unary_bufs_sub .., unary_bufs_sub ..⟩

/-- The other two, and the stack of the indices. -/
abbrev stackOpsB : List (HloOp τ sig (Elt F)) :=
  [ unary main_v45 main_v60 (broadcastInDim S32x1024x1x1 ![0, 1, 2] bcast_S32x1024x1_S32x1024x1x1_0_1_2 : (⟨S32x1024x1, .i32⟩ : BufTy).Contents (Elt F) → (⟨S32x1024x1x1, .i32⟩ : BufTy).Contents (Elt F)),
    unary main_v55 main_v61 (broadcastInDim S32x1024x1x1 ![0, 1, 2] bcast_S32x1024x1_S32x1024x1x1_0_1_2 : (⟨S32x1024x1, .i32⟩ : BufTy).Contents (Elt F) → (⟨S32x1024x1x1, .i32⟩ : BufTy).Contents (Elt F)),
    nary ![main_v57, main_v58, main_v59, main_v60, main_v61] main_v62 (fun u => (concatenate S32x1024x1x5 3 [⟨S32x1024x1x1, (u 0 : (⟨S32x1024x1x1, .i32⟩ : BufTy).Contents (Elt F))⟩, ⟨S32x1024x1x1, (u 1 : (⟨S32x1024x1x1, .i32⟩ : BufTy).Contents (Elt F))⟩, ⟨S32x1024x1x1, (u 2 : (⟨S32x1024x1x1, .i32⟩ : BufTy).Contents (Elt F))⟩, ⟨S32x1024x1x1, (u 3 : (⟨S32x1024x1x1, .i32⟩ : BufTy).Contents (Elt F))⟩, ⟨S32x1024x1x1, (u 4 : (⟨S32x1024x1x1, .i32⟩ : BufTy).Contents (Elt F))⟩] concatenates_S32x1024x1x1_S32x1024x1x1_S32x1024x1x1_S32x1024x1x1_S32x1024x1x1_S32x1024x1x5_d3 : (⟨S32x1024x1x5, .i32⟩ : BufTy).Contents (Elt F))) ]

theorem stackOpsB_bufs : (stackOpsB : List (HloOp τ sig (Elt F))).Forall fun op => op.bufs ⊆ tcRefs τ sig :=
  ⟨unary_bufs_sub .., unary_bufs_sub .., nary_bufs_sub ..⟩

/-- The stack of the levels read. -/
abbrev stackOpsC : List (HloOp τ sig (Elt F)) :=
  [ unary main_v16 main_v63 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_v26 main_v64 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_v36 main_v65 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_v46 main_v66 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    unary main_v56 main_v67 (broadcastInDim S32x1024x1x1 ![0, 1, 2] bcast_S32x1024x1_S32x1024x1x1_0_1_2 : (⟨S32x1024x1, .f32⟩ : BufTy).Contents (Elt F) → (⟨S32x1024x1x1, .f32⟩ : BufTy).Contents (Elt F)),
    nary ![main_v63, main_v64, main_v65, main_v66, main_v67] main_v68 (fun u => (concatenate S32x1024x1x5 3 [⟨S32x1024x1x1, (u 0 : (⟨S32x1024x1x1, .f32⟩ : BufTy).Contents (Elt F))⟩, ⟨S32x1024x1x1, (u 1 : (⟨S32x1024x1x1, .f32⟩ : BufTy).Contents (Elt F))⟩, ⟨S32x1024x1x1, (u 2 : (⟨S32x1024x1x1, .f32⟩ : BufTy).Contents (Elt F))⟩, ⟨S32x1024x1x1, (u 3 : (⟨S32x1024x1x1, .f32⟩ : BufTy).Contents (Elt F))⟩, ⟨S32x1024x1x1, (u 4 : (⟨S32x1024x1x1, .f32⟩ : BufTy).Contents (Elt F))⟩] concatenates_S32x1024x1x1_S32x1024x1x1_S32x1024x1x1_S32x1024x1x1_S32x1024x1x1_S32x1024x1x5_d3 : (⟨S32x1024x1x5, .f32⟩ : BufTy).Contents (Elt F))) ]

theorem stackOpsC_bufs : (stackOpsC : List (HloOp τ sig (Elt F))).Forall fun op => op.bufs ⊆ tcRefs τ sig :=
  ⟨unary_bufs_sub .., unary_bufs_sub .., unary_bufs_sub .., unary_bufs_sub .., unary_bufs_sub .., nary_bufs_sub ..⟩

/-- The straight-through values and the two mean squares. -/
abbrev lossOps : List (HloOp τ sig (Elt F)) :=
  [ binary main_v68 main_v6 main_v69 (subf : (⟨S32x1024x1x5, .f32⟩ : BufTy).Contents (Elt F) → (⟨S32x1024x1x5, .f32⟩ : BufTy).Contents (Elt F) → (⟨S32x1024x1x5, .f32⟩ : BufTy).Contents (Elt F)),
    binary main_v6 main_v69 main_v70 (addf : (⟨S32x1024x1x5, .f32⟩ : BufTy).Contents (Elt F) → (⟨S32x1024x1x5, .f32⟩ : BufTy).Contents (Elt F) → (⟨S32x1024x1x5, .f32⟩ : BufTy).Contents (Elt F)),
    binary main_v6 main_v70 main_v71 (subf : (⟨S32x1024x1x5, .f32⟩ : BufTy).Contents (Elt F) → (⟨S32x1024x1x5, .f32⟩ : BufTy).Contents (Elt F) → (⟨S32x1024x1x5, .f32⟩ : BufTy).Contents (Elt F)),
    binary main_v71 main_v71 main_v72 (mulf : (⟨S32x1024x1x5, .f32⟩ : BufTy).Contents (Elt F) → (⟨S32x1024x1x5, .f32⟩ : BufTy).Contents (Elt F) → (⟨S32x1024x1x5, .f32⟩ : BufTy).Contents (Elt F)),
    nullary main_cst (constant S_ .f32 0x00000000#32),
    binary main_v72 main_cst main_v73 ((fun x v => Host.reduceAdd x v reducesTo_S32x1024x1x5_S_d0_1_2_3 h_S_) : (⟨S32x1024x1x5, .f32⟩ : BufTy).Contents (Elt F) → (⟨S_, .f32⟩ : BufTy).Contents (Elt F) → (⟨S_, .f32⟩ : BufTy).Contents (Elt F)),
    nullary main_cst_0 (constant S_ .f32 0x48200000#32),
    binary main_v73 main_cst_0 main_v74 (Host.divf : (⟨S_, .f32⟩ : BufTy).Contents (Elt F) → (⟨S_, .f32⟩ : BufTy).Contents (Elt F) → (⟨S_, .f32⟩ : BufTy).Contents (Elt F)),
    binary main_v70 main_v6 main_v75 (subf : (⟨S32x1024x1x5, .f32⟩ : BufTy).Contents (Elt F) → (⟨S32x1024x1x5, .f32⟩ : BufTy).Contents (Elt F) → (⟨S32x1024x1x5, .f32⟩ : BufTy).Contents (Elt F)),
    binary main_v75 main_v75 main_v76 (mulf : (⟨S32x1024x1x5, .f32⟩ : BufTy).Contents (Elt F) → (⟨S32x1024x1x5, .f32⟩ : BufTy).Contents (Elt F) → (⟨S32x1024x1x5, .f32⟩ : BufTy).Contents (Elt F)),
    nullary main_cst_1 (constant S_ .f32 0x00000000#32),
    binary main_v76 main_cst_1 main_v77 ((fun x v => Host.reduceAdd x v reducesTo_S32x1024x1x5_S_d0_1_2_3 h_S_) : (⟨S32x1024x1x5, .f32⟩ : BufTy).Contents (Elt F) → (⟨S_, .f32⟩ : BufTy).Contents (Elt F) → (⟨S_, .f32⟩ : BufTy).Contents (Elt F)),
    nullary main_cst_2 (constant S_ .f32 0x48200000#32),
    binary main_v77 main_cst_2 main_v78 (Host.divf : (⟨S_, .f32⟩ : BufTy).Contents (Elt F) → (⟨S_, .f32⟩ : BufTy).Contents (Elt F) → (⟨S_, .f32⟩ : BufTy).Contents (Elt F)),
    nullary main_cst_3 (constant S_ .f32 0x41200000#32),
    binary main_v74 main_cst_3 main_v79 (Host.divf : (⟨S_, .f32⟩ : BufTy).Contents (Elt F) → (⟨S_, .f32⟩ : BufTy).Contents (Elt F) → (⟨S_, .f32⟩ : BufTy).Contents (Elt F)),
    nullary main_cst_4 (constant S_ .f32 0x41200000#32),
    binary main_v78 main_cst_4 main_v80 (Host.divf : (⟨S_, .f32⟩ : BufTy).Contents (Elt F) → (⟨S_, .f32⟩ : BufTy).Contents (Elt F) → (⟨S_, .f32⟩ : BufTy).Contents (Elt F)),
    binary main_v79 main_v80 main_v81 (addf : (⟨S_, .f32⟩ : BufTy).Contents (Elt F) → (⟨S_, .f32⟩ : BufTy).Contents (Elt F) → (⟨S_, .f32⟩ : BufTy).Contents (Elt F)) ]

theorem lossOps_bufs : (lossOps : List (HloOp τ sig (Elt F))).Forall fun op => op.bufs ⊆ tcRefs τ sig :=
  ⟨binary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩

/-- The output projection and the two results in their final shapes. -/
abbrev outOps : List (HloOp τ sig (Elt F)) :=
  [ reshape main_v70 main_v82 (rfl : (.f32 : EltTy) = .f32) shapeCasts_S32x1024x1x5_S32x1024x5,
    binary main_v82 main_arg3 main_v83 ((fun l r => Host.dotGeneral dot_S32x1024x5_S5x768_S32x1024x768_2_0_01_1_n_n none l r) : (⟨S32x1024x5, .f32⟩ : BufTy).Contents (Elt F) → (⟨S5x768, .f32⟩ : BufTy).Contents (Elt F) → (⟨S32x1024x768, .f32⟩ : BufTy).Contents (Elt F)),
    unary main_arg4 main_v84 (broadcastInDim S1x1x768 ![2] bcast_S768_S1x1x768_2 : (⟨S768, .f32⟩ : BufTy).Contents (Elt F) → (⟨S1x1x768, .f32⟩ : BufTy).Contents (Elt F)),
    unary main_v84 main_v85 (broadcastInDim S32x1024x768 ![0, 1, 2] bcast_S1x1x768_S32x1024x768_0_1_2 : (⟨S1x1x768, .f32⟩ : BufTy).Contents (Elt F) → (⟨S32x1024x768, .f32⟩ : BufTy).Contents (Elt F)),
    binary main_v83 main_v85 main_v86 (addf : (⟨S32x1024x768, .f32⟩ : BufTy).Contents (Elt F) → (⟨S32x1024x768, .f32⟩ : BufTy).Contents (Elt F) → (⟨S32x1024x768, .f32⟩ : BufTy).Contents (Elt F)),
    reshape main_v86 main_v87 (rfl : (.f32 : EltTy) = .f32) shapeCasts_S32x1024x768_S32x32x32x768,
    unary main_v87 main_v88 ((transpose S32x768x32x32 [0, 3, 1, 2] · transposes_S32x32x32x768_S32x768x32x32_0_3_1_2) : (⟨S32x32x32x768, .f32⟩ : BufTy).Contents (Elt F) → (⟨S32x768x32x32, .f32⟩ : BufTy).Contents (Elt F)),
    reshape main_v62 main_v89 (rfl : (.i32 : EltTy) = .i32) shapeCasts_S32x1024x1x5_S32x32x32x5 ]

theorem outOps_bufs : (outOps : List (HloOp τ sig (Elt F))).Forall fun op => op.bufs ⊆ tcRefs τ sig :=
  ⟨reshape_bufs_sub .., binary_bufs_sub .., unary_bufs_sub .., unary_bufs_sub .., binary_bufs_sub .., reshape_bufs_sub .., unary_bufs_sub .., reshape_bufs_sub ..⟩

/-- The operations of @main's first stretch of statements. -/
def ops₀ : List (HloOp τ sig (Elt F)) :=
  headOps ++ (distOps0 ++ (indexOps0 ++ (levelOps0 ++ (distOps1 ++ (indexOps1 ++ (levelOps1 ++ (distOps2 ++ (indexOps2 ++ (levelOps2 ++ (distOps3 ++ (indexOps3 ++ (levelOps3 ++ (distOps4 ++ (indexOps4 ++ (levelOps4 ++ (stackOpsA))))))))))))))))

/-- The operations of @main's second stretch of statements. -/
def ops₁ : List (HloOp τ sig (Elt F)) :=
  stackOpsB ++ (stackOpsC ++ (lossOps ++ (outOps)))

/-- All of @main's operations. -/
def ops : List (HloOp τ sig (Elt F)) := ops₀ ++ ops₁

set_option maxRecDepth 16384 in
set_option maxHeartbeats 8000000 in
theorem main_part0_eq (c : Dev nD) : main_part0 (F := F) c = seq ops₀ := rfl

set_option maxRecDepth 16384 in
set_option maxHeartbeats 4000000 in
theorem main_part1_eq (c : Dev nD) : main_part1 (F := F) c = seq ops₁ := rfl

theorem main_eq (c : Dev nD) : main (F := F) c = seq ops := by
  rw [ops, seq_append, ← main_part0_eq c, ← main_part1_eq c]; rfl

theorem ops_bufs : (ops : List (HloOp τ sig (Elt F))).Forall fun op => op.bufs ⊆ tcRefs τ sig := by
  simp only [ops, ops₀, ops₁, List.forall_append]
  exact ⟨⟨headOps_bufs, distOps0_bufs, indexOps0_bufs, levelOps0_bufs, distOps1_bufs, indexOps1_bufs, levelOps1_bufs, distOps2_bufs, indexOps2_bufs, levelOps2_bufs, distOps3_bufs, indexOps3_bufs, levelOps3_bufs, distOps4_bufs, indexOps4_bufs, levelOps4_bufs, stackOpsA_bufs⟩, stackOpsB_bufs, stackOpsC_bufs, lossOps_bufs, outOps_bufs⟩

set_option maxRecDepth 16384 in
set_option maxHeartbeats 4000000 in
theorem ops_fresh : ∀ op ∈ (ops : List (HloOp τ sig (Elt F))), op.fresh = ∅ :=
  List.forall_iff_forall_mem.mp (forall_fresh_of_map rfl)

/-- What `headOps` writes. -/
abbrev headOps_W : List (Ref sig .tc) := [main_v0, main_v1, main_v2, main_v3, main_v4, main_v5, main_v6]

theorem headOps_keep (V : Valuation τ sig (Elt F)) (r : Ref sig .tc) (h : r ∉ headOps_W) :
    after headOps V (Proc.devRef .tc r) = V (Proc.devRef .tc r) :=
  after_of_writes_sub _ V (forall_writes_sub_of_map rfl) h

/-- What `distOps0` writes. -/
abbrev distOps0_W : List (Ref sig .tc) := [main_v7, main_v8, main_v9, main_v10, main_v11, main_v12, main_v13, main_v14]

theorem distOps0_keep (V : Valuation τ sig (Elt F)) (r : Ref sig .tc) (h : r ∉ distOps0_W) :
    after distOps0 V (Proc.devRef .tc r) = V (Proc.devRef .tc r) :=
  after_of_writes_sub _ V (forall_writes_sub_of_map rfl) h

/-- What `indexOps0` writes. -/
abbrev indexOps0_W : List (Ref sig .tc) := [main_call0_v0, main_call0_cst, main_call0_c, main_call0_v1_0, main_v15]

theorem indexOps0_keep (V : Valuation τ sig (Elt F)) (r : Ref sig .tc) (h : r ∉ indexOps0_W) :
    after indexOps0 V (Proc.devRef .tc r) = V (Proc.devRef .tc r) :=
  after_of_writes_sub _ V (forall_writes_sub_of_map rfl) h

/-- What `levelOps0` writes. -/
abbrev levelOps0_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v16]

theorem levelOps0_keep (V : Valuation τ sig (Elt F)) (r : Ref sig .tc) (h : r ∉ levelOps0_W) :
    after levelOps0 V (Proc.devRef .tc r) = V (Proc.devRef .tc r) :=
  after_of_writes_sub _ V (forall_writes_sub_of_map rfl) h

/-- What `distOps1` writes. -/
abbrev distOps1_W : List (Ref sig .tc) := [main_v17, main_v18, main_v19, main_v20, main_v21, main_v22, main_v23, main_v24]

theorem distOps1_keep (V : Valuation τ sig (Elt F)) (r : Ref sig .tc) (h : r ∉ distOps1_W) :
    after distOps1 V (Proc.devRef .tc r) = V (Proc.devRef .tc r) :=
  after_of_writes_sub _ V (forall_writes_sub_of_map rfl) h

/-- What `indexOps1` writes. -/
abbrev indexOps1_W : List (Ref sig .tc) := [main_call2_v0, main_call2_cst, main_call2_c, main_call2_v1_0, main_v25]

theorem indexOps1_keep (V : Valuation τ sig (Elt F)) (r : Ref sig .tc) (h : r ∉ indexOps1_W) :
    after indexOps1 V (Proc.devRef .tc r) = V (Proc.devRef .tc r) :=
  after_of_writes_sub _ V (forall_writes_sub_of_map rfl) h

/-- What `levelOps1` writes. -/
abbrev levelOps1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v26]

theorem levelOps1_keep (V : Valuation τ sig (Elt F)) (r : Ref sig .tc) (h : r ∉ levelOps1_W) :
    after levelOps1 V (Proc.devRef .tc r) = V (Proc.devRef .tc r) :=
  after_of_writes_sub _ V (forall_writes_sub_of_map rfl) h

/-- What `distOps2` writes. -/
abbrev distOps2_W : List (Ref sig .tc) := [main_v27, main_v28, main_v29, main_v30, main_v31, main_v32, main_v33, main_v34]

theorem distOps2_keep (V : Valuation τ sig (Elt F)) (r : Ref sig .tc) (h : r ∉ distOps2_W) :
    after distOps2 V (Proc.devRef .tc r) = V (Proc.devRef .tc r) :=
  after_of_writes_sub _ V (forall_writes_sub_of_map rfl) h

/-- What `indexOps2` writes. -/
abbrev indexOps2_W : List (Ref sig .tc) := [main_call4_v0, main_call4_cst, main_call4_c, main_call4_v1_0, main_v35]

theorem indexOps2_keep (V : Valuation τ sig (Elt F)) (r : Ref sig .tc) (h : r ∉ indexOps2_W) :
    after indexOps2 V (Proc.devRef .tc r) = V (Proc.devRef .tc r) :=
  after_of_writes_sub _ V (forall_writes_sub_of_map rfl) h

/-- What `levelOps2` writes. -/
abbrev levelOps2_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v36]

theorem levelOps2_keep (V : Valuation τ sig (Elt F)) (r : Ref sig .tc) (h : r ∉ levelOps2_W) :
    after levelOps2 V (Proc.devRef .tc r) = V (Proc.devRef .tc r) :=
  after_of_writes_sub _ V (forall_writes_sub_of_map rfl) h

/-- What `distOps3` writes. -/
abbrev distOps3_W : List (Ref sig .tc) := [main_v37, main_v38, main_v39, main_v40, main_v41, main_v42, main_v43, main_v44]

theorem distOps3_keep (V : Valuation τ sig (Elt F)) (r : Ref sig .tc) (h : r ∉ distOps3_W) :
    after distOps3 V (Proc.devRef .tc r) = V (Proc.devRef .tc r) :=
  after_of_writes_sub _ V (forall_writes_sub_of_map rfl) h

/-- What `indexOps3` writes. -/
abbrev indexOps3_W : List (Ref sig .tc) := [main_call6_v0, main_call6_cst, main_call6_c, main_call6_v1_0, main_v45]

theorem indexOps3_keep (V : Valuation τ sig (Elt F)) (r : Ref sig .tc) (h : r ∉ indexOps3_W) :
    after indexOps3 V (Proc.devRef .tc r) = V (Proc.devRef .tc r) :=
  after_of_writes_sub _ V (forall_writes_sub_of_map rfl) h

/-- What `levelOps3` writes. -/
abbrev levelOps3_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v46]

theorem levelOps3_keep (V : Valuation τ sig (Elt F)) (r : Ref sig .tc) (h : r ∉ levelOps3_W) :
    after levelOps3 V (Proc.devRef .tc r) = V (Proc.devRef .tc r) :=
  after_of_writes_sub _ V (forall_writes_sub_of_map rfl) h

/-- What `distOps4` writes. -/
abbrev distOps4_W : List (Ref sig .tc) := [main_v47, main_v48, main_v49, main_v50, main_v51, main_v52, main_v53, main_v54]

theorem distOps4_keep (V : Valuation τ sig (Elt F)) (r : Ref sig .tc) (h : r ∉ distOps4_W) :
    after distOps4 V (Proc.devRef .tc r) = V (Proc.devRef .tc r) :=
  after_of_writes_sub _ V (forall_writes_sub_of_map rfl) h

/-- What `indexOps4` writes. -/
abbrev indexOps4_W : List (Ref sig .tc) := [main_call8_v0, main_call8_cst, main_call8_c, main_call8_v1_0, main_v55]

theorem indexOps4_keep (V : Valuation τ sig (Elt F)) (r : Ref sig .tc) (h : r ∉ indexOps4_W) :
    after indexOps4 V (Proc.devRef .tc r) = V (Proc.devRef .tc r) :=
  after_of_writes_sub _ V (forall_writes_sub_of_map rfl) h

/-- What `levelOps4` writes. -/
abbrev levelOps4_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v56]

theorem levelOps4_keep (V : Valuation τ sig (Elt F)) (r : Ref sig .tc) (h : r ∉ levelOps4_W) :
    after levelOps4 V (Proc.devRef .tc r) = V (Proc.devRef .tc r) :=
  after_of_writes_sub _ V (forall_writes_sub_of_map rfl) h

/-- What `stackOpsA` writes. -/
abbrev stackOpsA_W : List (Ref sig .tc) := [main_v57, main_v58, main_v59]

theorem stackOpsA_keep (V : Valuation τ sig (Elt F)) (r : Ref sig .tc) (h : r ∉ stackOpsA_W) :
    after stackOpsA V (Proc.devRef .tc r) = V (Proc.devRef .tc r) :=
  after_of_writes_sub _ V (forall_writes_sub_of_map rfl) h

/-- What `stackOpsB` writes. -/
abbrev stackOpsB_W : List (Ref sig .tc) := [main_v60, main_v61, main_v62]

theorem stackOpsB_keep (V : Valuation τ sig (Elt F)) (r : Ref sig .tc) (h : r ∉ stackOpsB_W) :
    after stackOpsB V (Proc.devRef .tc r) = V (Proc.devRef .tc r) :=
  after_of_writes_sub _ V (forall_writes_sub_of_map rfl) h

/-- What `stackOpsC` writes. -/
abbrev stackOpsC_W : List (Ref sig .tc) := [main_v63, main_v64, main_v65, main_v66, main_v67, main_v68]

theorem stackOpsC_keep (V : Valuation τ sig (Elt F)) (r : Ref sig .tc) (h : r ∉ stackOpsC_W) :
    after stackOpsC V (Proc.devRef .tc r) = V (Proc.devRef .tc r) :=
  after_of_writes_sub _ V (forall_writes_sub_of_map rfl) h

/-- What `lossOps` writes. -/
abbrev lossOps_W : List (Ref sig .tc) := [main_v69, main_v70, main_v71, main_v72, main_cst, main_v73, main_cst_0, main_v74, main_v75, main_v76, main_cst_1, main_v77, main_cst_2, main_v78, main_cst_3, main_v79, main_cst_4, main_v80, main_v81]

theorem lossOps_keep (V : Valuation τ sig (Elt F)) (r : Ref sig .tc) (h : r ∉ lossOps_W) :
    after lossOps V (Proc.devRef .tc r) = V (Proc.devRef .tc r) :=
  after_of_writes_sub _ V (forall_writes_sub_of_map rfl) h

/-- What `outOps` writes. -/
abbrev outOps_W : List (Ref sig .tc) := [main_v82, main_v83, main_v84, main_v85, main_v86, main_v87, main_v88, main_v89]

theorem outOps_keep (V : Valuation τ sig (Elt F)) (r : Ref sig .tc) (h : r ∉ outOps_W) :
    after outOps V (Proc.devRef .tc r) = V (Proc.devRef .tc r) :=
  after_of_writes_sub _ V (forall_writes_sub_of_map rfl) h

end Cert.Proof.Ref

end
-- ==== Proof.RefReads.lean ====
/-
  What the reference leaves in its three result buffers, as array functions of its arguments: the latent array, each
  column's distances, nearest-level index and level, the stacks of the five columns, the straight-through values, the
  loss and the projected output — and the run that ends there.
-/
module

public import proofs.«01_k».proof.Proof.RefOps
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The latent array: each sample's position by the input projection, plus its offset. -/
def latA (z : FVec F S32x768x32x32 .f32) (w : FVec F S768x5 .f32) (b : FVec F S5 .f32) : FVec F S32x1024x1x5 .f32 :=
  broadcastInDim S32x1024x1x5 ![0, 1, 3] bcast_S32x1024x5_S32x1024x1x5_0_1_3
    (addf (Host.dotGeneral dot_S32x1024x768_S768x5_S32x1024x5_2_0_01_1_n_n none
        (shapeCast _ (transpose S32x32x32x768 [0, 2, 3, 1] z transposes_S32x768x32x32_S32x32x32x768_0_2_3_1)
          shapeCasts_S32x32x32x768_S32x1024x768) w)
      (broadcastInDim S32x1024x5 ![0, 1, 2] bcast_S1x1x5_S32x1024x5_0_1_2 (broadcastInDim S1x1x5 ![2] bcast_S5_S1x1x5_2 b)))

/-- Column 0 of the latent array, its distance to each of 8 levels. -/
def distA0 (x : FVec F S32x1024x1x5 .f32) (v : FVec F S8 .f32) : FVec F S32x1024x1x8 .f32 :=
  Host.absf (subf
    (broadcastInDim S32x1024x1x8 ![0, 1, 2, 3] bcast_S32x1024x1x1_S32x1024x1x8_0_1_2_3
      (broadcastInDim S32x1024x1x1 ![0, 1, 2] bcast_S32x1024x1_S32x1024x1x1_0_1_2
        (shapeCast _ (extractStridedSlice S32x1024x1x1 ![0, 0, 0, 0] x slices_S32x1024x1x5_S32x1024x1x1_0_0_0_0)
          shapeCasts_S32x1024x1x1_S32x1024x1)))
    (broadcastInDim S32x1024x1x8 ![0, 1, 2, 3] bcast_S1x1x1x8_S32x1024x1x8_0_1_2_3
      (broadcastInDim S1x1x1x8 ![3] bcast_S8_S1x1x1x8_3 v)))

/-- Column 1 of the latent array, its distance to each of 8 levels. -/
def distA1 (x : FVec F S32x1024x1x5 .f32) (v : FVec F S8 .f32) : FVec F S32x1024x1x8 .f32 :=
  Host.absf (subf
    (broadcastInDim S32x1024x1x8 ![0, 1, 2, 3] bcast_S32x1024x1x1_S32x1024x1x8_0_1_2_3
      (broadcastInDim S32x1024x1x1 ![0, 1, 2] bcast_S32x1024x1_S32x1024x1x1_0_1_2
        (shapeCast _ (extractStridedSlice S32x1024x1x1 ![0, 0, 0, 1] x slices_S32x1024x1x5_S32x1024x1x1_0_0_0_1)
          shapeCasts_S32x1024x1x1_S32x1024x1)))
    (broadcastInDim S32x1024x1x8 ![0, 1, 2, 3] bcast_S1x1x1x8_S32x1024x1x8_0_1_2_3
      (broadcastInDim S1x1x1x8 ![3] bcast_S8_S1x1x1x8_3 v)))

/-- Column 2 of the latent array, its distance to each of 8 levels. -/
def distA2 (x : FVec F S32x1024x1x5 .f32) (v : FVec F S8 .f32) : FVec F S32x1024x1x8 .f32 :=
  Host.absf (subf
    (broadcastInDim S32x1024x1x8 ![0, 1, 2, 3] bcast_S32x1024x1x1_S32x1024x1x8_0_1_2_3
      (broadcastInDim S32x1024x1x1 ![0, 1, 2] bcast_S32x1024x1_S32x1024x1x1_0_1_2
        (shapeCast _ (extractStridedSlice S32x1024x1x1 ![0, 0, 0, 2] x slices_S32x1024x1x5_S32x1024x1x1_0_0_0_2)
          shapeCasts_S32x1024x1x1_S32x1024x1)))
    (broadcastInDim S32x1024x1x8 ![0, 1, 2, 3] bcast_S1x1x1x8_S32x1024x1x8_0_1_2_3
      (broadcastInDim S1x1x1x8 ![3] bcast_S8_S1x1x1x8_3 v)))

/-- Column 3 of the latent array, its distance to each of 6 levels. -/
def distA3 (x : FVec F S32x1024x1x5 .f32) (v : FVec F S6 .f32) : FVec F S32x1024x1x6 .f32 :=
  Host.absf (subf
    (broadcastInDim S32x1024x1x6 ![0, 1, 2, 3] bcast_S32x1024x1x1_S32x1024x1x6_0_1_2_3
      (broadcastInDim S32x1024x1x1 ![0, 1, 2] bcast_S32x1024x1_S32x1024x1x1_0_1_2
        (shapeCast _ (extractStridedSlice S32x1024x1x1 ![0, 0, 0, 3] x slices_S32x1024x1x5_S32x1024x1x1_0_0_0_3)
          shapeCasts_S32x1024x1x1_S32x1024x1)))
    (broadcastInDim S32x1024x1x6 ![0, 1, 2, 3] bcast_S1x1x1x6_S32x1024x1x6_0_1_2_3
      (broadcastInDim S1x1x1x6 ![3] bcast_S6_S1x1x1x6_3 v)))

/-- Column 4 of the latent array, its distance to each of 5 levels. -/
def distA4 (x : FVec F S32x1024x1x5 .f32) (v : FVec F S5 .f32) : FVec F S32x1024x1x5 .f32 :=
  Host.absf (subf
    (broadcastInDim S32x1024x1x5 ![0, 1, 2, 3] bcast_S32x1024x1x1_S32x1024x1x5_0_1_2_3
      (broadcastInDim S32x1024x1x1 ![0, 1, 2] bcast_S32x1024x1_S32x1024x1x1_0_1_2
        (shapeCast _ (extractStridedSlice S32x1024x1x1 ![0, 0, 0, 4] x slices_S32x1024x1x5_S32x1024x1x1_0_0_0_4)
          shapeCasts_S32x1024x1x1_S32x1024x1)))
    (broadcastInDim S32x1024x1x5 ![0, 1, 2, 3] bcast_S1x1x1x5_S32x1024x1x5_0_1_2_3
      (broadcastInDim S1x1x1x5 ![3] bcast_S5_S1x1x1x5_3 v)))

/-- The index of the least of 8 distances. -/
def indexA8 (d : FVec F S32x1024x1x8 .f32) : IVec S32x1024x1 32 := fun j =>
  (Host.argReduce reducer_argmin_f32_i32 d (iotaInDim S32x1024x1x8 32 3) (constant S_ .f32 0x7F800000#32)
    (constantI S_ 32 0#32) reducesTo_S32x1024x1x8_S32x1024x1_d3 h_S_ j).2

/-- An index into 8 levels, counted from the end where it is negative. -/
def wrapA8 (i : IVec S32x1024x1 32) : IVec S32x1024x1x1 32 :=
  broadcastInDim S32x1024x1x1 ![0, 1, 2] bcast_S32x1024x1_S32x1024x1x1_0_1_2
    (select (cmpi .slt i (broadcastInDim S32x1024x1 ![] bcast_S_S32x1024x1 (constantI S_ 32 0#32)))
      (addi i (broadcastInDim S32x1024x1 ![] bcast_S_S32x1024x1 (constantI S_ 32 8#32))) i)

/-- The level at an index into 8, the filler where the index is out of range. -/
def levelA8 (v : FVec F S8 .f32) (i : IVec S32x1024x1 32) : FVec F S32x1024x1 .f32 :=
  select
    (Host.reduce IntOp.andi
      (andi (cmpi .sge (wrapA8 i) (broadcastInDim S32x1024x1x1 ![] bcast_S_S32x1024x1x1 (constantI S_ 32 0#32)))
        (cmpi .sle (wrapA8 i) (broadcastInDim S32x1024x1x1 ![0, 1, 2, 3] bcast_S1x1x1x1_S32x1024x1x1_0_1_2_3
          (broadcastInDim S1x1x1x1 ![3] bcast_S1_S1x1x1x1_3 (constantI S1 32 7#32)))))
      (constantI S_ 1 1#1) reducesTo_S32x1024x1x1_S32x1024x1_d3 h_S_)
    (Host.gather gather_S8_S32x1024x1x1_S32x1024x1_n_0_n_n_0_3_1 v (wrapA8 i))
    (broadcastInDim S32x1024x1 ![] bcast_S_S32x1024x1 (constant S_ .f32 0x7FC00000#32))

/-- The index of the least of 6 distances. -/
def indexA6 (d : FVec F S32x1024x1x6 .f32) : IVec S32x1024x1 32 := fun j =>
  (Host.argReduce reducer_argmin_f32_i32 d (iotaInDim S32x1024x1x6 32 3) (constant S_ .f32 0x7F800000#32)
    (constantI S_ 32 0#32) reducesTo_S32x1024x1x6_S32x1024x1_d3 h_S_ j).2

/-- An index into 6 levels, counted from the end where it is negative. -/
def wrapA6 (i : IVec S32x1024x1 32) : IVec S32x1024x1x1 32 :=
  broadcastInDim S32x1024x1x1 ![0, 1, 2] bcast_S32x1024x1_S32x1024x1x1_0_1_2
    (select (cmpi .slt i (broadcastInDim S32x1024x1 ![] bcast_S_S32x1024x1 (constantI S_ 32 0#32)))
      (addi i (broadcastInDim S32x1024x1 ![] bcast_S_S32x1024x1 (constantI S_ 32 6#32))) i)

/-- The level at an index into 6, the filler where the index is out of range. -/
def levelA6 (v : FVec F S6 .f32) (i : IVec S32x1024x1 32) : FVec F S32x1024x1 .f32 :=
  select
    (Host.reduce IntOp.andi
      (andi (cmpi .sge (wrapA6 i) (broadcastInDim S32x1024x1x1 ![] bcast_S_S32x1024x1x1 (constantI S_ 32 0#32)))
        (cmpi .sle (wrapA6 i) (broadcastInDim S32x1024x1x1 ![0, 1, 2, 3] bcast_S1x1x1x1_S32x1024x1x1_0_1_2_3
          (broadcastInDim S1x1x1x1 ![3] bcast_S1_S1x1x1x1_3 (constantI S1 32 5#32)))))
      (constantI S_ 1 1#1) reducesTo_S32x1024x1x1_S32x1024x1_d3 h_S_)
    (Host.gather gather_S6_S32x1024x1x1_S32x1024x1_n_0_n_n_0_3_1 v (wrapA6 i))
    (broadcastInDim S32x1024x1 ![] bcast_S_S32x1024x1 (constant S_ .f32 0x7FC00000#32))

/-- The index of the least of 5 distances. -/
def indexA5 (d : FVec F S32x1024x1x5 .f32) : IVec S32x1024x1 32 := fun j =>
  (Host.argReduce reducer_argmin_f32_i32 d (iotaInDim S32x1024x1x5 32 3) (constant S_ .f32 0x7F800000#32)
    (constantI S_ 32 0#32) reducesTo_S32x1024x1x5_S32x1024x1_d3 h_S_ j).2

/-- An index into 5 levels, counted from the end where it is negative. -/
def wrapA5 (i : IVec S32x1024x1 32) : IVec S32x1024x1x1 32 :=
  broadcastInDim S32x1024x1x1 ![0, 1, 2] bcast_S32x1024x1_S32x1024x1x1_0_1_2
    (select (cmpi .slt i (broadcastInDim S32x1024x1 ![] bcast_S_S32x1024x1 (constantI S_ 32 0#32)))
      (addi i (broadcastInDim S32x1024x1 ![] bcast_S_S32x1024x1 (constantI S_ 32 5#32))) i)

/-- The level at an index into 5, the filler where the index is out of range. -/
def levelA5 (v : FVec F S5 .f32) (i : IVec S32x1024x1 32) : FVec F S32x1024x1 .f32 :=
  select
    (Host.reduce IntOp.andi
      (andi (cmpi .sge (wrapA5 i) (broadcastInDim S32x1024x1x1 ![] bcast_S_S32x1024x1x1 (constantI S_ 32 0#32)))
        (cmpi .sle (wrapA5 i) (broadcastInDim S32x1024x1x1 ![0, 1, 2, 3] bcast_S1x1x1x1_S32x1024x1x1_0_1_2_3
          (broadcastInDim S1x1x1x1 ![3] bcast_S1_S1x1x1x1_3 (constantI S1 32 4#32)))))
      (constantI S_ 1 1#1) reducesTo_S32x1024x1x1_S32x1024x1_d3 h_S_)
    (Host.gather gather_S5_S32x1024x1x1_S32x1024x1_n_0_n_n_0_3_1 v (wrapA5 i))
    (broadcastInDim S32x1024x1 ![] bcast_S_S32x1024x1 (constant S_ .f32 0x7FC00000#32))

/-- Five columns side by side. -/
def stackA {α : Type} (a0 a1 a2 a3 a4 : S32x1024x1.Idx → α) : S32x1024x1x5.Idx → α :=
  concatenate S32x1024x1x5 3
    [⟨S32x1024x1x1, broadcastInDim S32x1024x1x1 ![0, 1, 2] bcast_S32x1024x1_S32x1024x1x1_0_1_2 a0⟩,
     ⟨S32x1024x1x1, broadcastInDim S32x1024x1x1 ![0, 1, 2] bcast_S32x1024x1_S32x1024x1x1_0_1_2 a1⟩,
     ⟨S32x1024x1x1, broadcastInDim S32x1024x1x1 ![0, 1, 2] bcast_S32x1024x1_S32x1024x1x1_0_1_2 a2⟩,
     ⟨S32x1024x1x1, broadcastInDim S32x1024x1x1 ![0, 1, 2] bcast_S32x1024x1_S32x1024x1x1_0_1_2 a3⟩,
     ⟨S32x1024x1x1, broadcastInDim S32x1024x1x1 ![0, 1, 2] bcast_S32x1024x1_S32x1024x1x1_0_1_2 a4⟩]
    concatenates_S32x1024x1x1_S32x1024x1x1_S32x1024x1x1_S32x1024x1x1_S32x1024x1x1_S32x1024x1x5_d3

/-- The straight-through value of a latent `x` quantized to `q`. -/
def steA (x q : FVec F S32x1024x1x5 .f32) : FVec F S32x1024x1x5 .f32 := addf x (subf q x)

/-- The mean square of an array of differences, a tenth of it. -/
def meanA (d : FVec F S32x1024x1x5 .f32) : FVec F S_ .f32 :=
  Host.divf (Host.divf (Host.reduceAdd (mulf d d) (constant S_ .f32 0x00000000#32) reducesTo_S32x1024x1x5_S_d0_1_2_3 h_S_)
    (constant S_ .f32 0x48200000#32)) (constant S_ .f32 0x41200000#32)

/-- The loss of a latent and its straight-through value: the commitment and the quantization term. -/
def lossA (x s : FVec F S32x1024x1x5 .f32) : FVec F S_ .f32 := addf (meanA (subf x s)) (meanA (subf s x))

/-- The output projection of the straight-through values, in the input's layout. -/
def outA (s : FVec F S32x1024x1x5 .f32) (w : FVec F S5x768 .f32) (b : FVec F S768 .f32) : FVec F S32x768x32x32 .f32 :=
  transpose S32x768x32x32 [0, 3, 1, 2]
    (shapeCast _
      (addf (Host.dotGeneral dot_S32x1024x5_S5x768_S32x1024x768_2_0_01_1_n_n none
          (shapeCast _ s shapeCasts_S32x1024x1x5_S32x1024x5) w)
        (broadcastInDim S32x1024x768 ![0, 1, 2] bcast_S1x1x768_S32x1024x768_0_1_2
          (broadcastInDim S1x1x768 ![2] bcast_S768_S1x1x768_2 b)))
      shapeCasts_S32x1024x768_S32x32x32x768)
    transposes_S32x32x32x768_S32x768x32x32_0_3_1_2

/-- The stacked indices in their final shape. -/
def codesA (i : IVec S32x1024x1x5 32) : IVec S32x32x32x5 32 := shapeCast _ i shapeCasts_S32x1024x1x5_S32x32x32x5

section Blocks

variable (V : Valuation τ sig (Elt F))

theorem head_v6 : after headOps V (Proc.devRef .tc main_v6)
    = latA (V (Proc.devRef .tc main_arg0)) (V (Proc.devRef .tc main_arg1)) (V (Proc.devRef .tc main_arg2)) := by
  after_results
  rfl

theorem dist0_read : after distOps0 V (Proc.devRef .tc main_v14)
    = distA0 (V (Proc.devRef .tc main_v6)) (V (Proc.devRef .tc main_arg5)) := by
  after_results
  rfl

set_option maxHeartbeats 2000000 in
theorem index0_read : after indexOps0 V (Proc.devRef .tc main_v15) = indexA8 (V (Proc.devRef .tc main_v14)) := by
  simp only [indexOps0, argminOps8, TRef.binary, TRef.nullary, TRef.quaternary, TRef.ternary, TRef.unary, TRef.toBuf, TRef.ofBuf, cast_eq]
  after_results_simp
  rfl

set_option maxHeartbeats 2000000 in
theorem level0_read : after levelOps0 V (Proc.devRef .tc main_v16)
    = levelA8 (V (Proc.devRef .tc main_arg5)) (V (Proc.devRef .tc main_v15)) := by
  simp only [levelOps0, takeOps8, TRef.binary, TRef.nullary, TRef.quaternary, TRef.ternary, TRef.unary, TRef.toBuf, TRef.ofBuf, cast_eq]
  after_results_simp
  rfl

theorem dist1_read : after distOps1 V (Proc.devRef .tc main_v24)
    = distA1 (V (Proc.devRef .tc main_v6)) (V (Proc.devRef .tc main_arg6)) := by
  after_results
  rfl

set_option maxHeartbeats 2000000 in
theorem index1_read : after indexOps1 V (Proc.devRef .tc main_v25) = indexA8 (V (Proc.devRef .tc main_v24)) := by
  simp only [indexOps1, argminOps8, TRef.binary, TRef.nullary, TRef.quaternary, TRef.ternary, TRef.unary, TRef.toBuf, TRef.ofBuf, cast_eq]
  after_results_simp
  rfl

set_option maxHeartbeats 2000000 in
theorem level1_read : after levelOps1 V (Proc.devRef .tc main_v26)
    = levelA8 (V (Proc.devRef .tc main_arg6)) (V (Proc.devRef .tc main_v25)) := by
  simp only [levelOps1, takeOps8, TRef.binary, TRef.nullary, TRef.quaternary, TRef.ternary, TRef.unary, TRef.toBuf, TRef.ofBuf, cast_eq]
  after_results_simp
  rfl

theorem dist2_read : after distOps2 V (Proc.devRef .tc main_v34)
    = distA2 (V (Proc.devRef .tc main_v6)) (V (Proc.devRef .tc main_arg7)) := by
  after_results
  rfl

set_option maxHeartbeats 2000000 in
theorem index2_read : after indexOps2 V (Proc.devRef .tc main_v35) = indexA8 (V (Proc.devRef .tc main_v34)) := by
  simp only [indexOps2, argminOps8, TRef.binary, TRef.nullary, TRef.quaternary, TRef.ternary, TRef.unary, TRef.toBuf, TRef.ofBuf, cast_eq]
  after_results_simp
  rfl

set_option maxHeartbeats 2000000 in
theorem level2_read : after levelOps2 V (Proc.devRef .tc main_v36)
    = levelA8 (V (Proc.devRef .tc main_arg7)) (V (Proc.devRef .tc main_v35)) := by
  simp only [levelOps2, takeOps8, TRef.binary, TRef.nullary, TRef.quaternary, TRef.ternary, TRef.unary, TRef.toBuf, TRef.ofBuf, cast_eq]
  after_results_simp
  rfl

theorem dist3_read : after distOps3 V (Proc.devRef .tc main_v44)
    = distA3 (V (Proc.devRef .tc main_v6)) (V (Proc.devRef .tc main_arg8)) := by
  after_results
  rfl

set_option maxHeartbeats 2000000 in
theorem index3_read : after indexOps3 V (Proc.devRef .tc main_v45) = indexA6 (V (Proc.devRef .tc main_v44)) := by
  simp only [indexOps3, argminOps6, TRef.binary, TRef.nullary, TRef.quaternary, TRef.ternary, TRef.unary, TRef.toBuf, TRef.ofBuf, cast_eq]
  after_results_simp
  rfl

set_option maxHeartbeats 2000000 in
theorem level3_read : after levelOps3 V (Proc.devRef .tc main_v46)
    = levelA6 (V (Proc.devRef .tc main_arg8)) (V (Proc.devRef .tc main_v45)) := by
  simp only [levelOps3, takeOps6, TRef.binary, TRef.nullary, TRef.quaternary, TRef.ternary, TRef.unary, TRef.toBuf, TRef.ofBuf, cast_eq]
  after_results_simp
  rfl

theorem dist4_read : after distOps4 V (Proc.devRef .tc main_v54)
    = distA4 (V (Proc.devRef .tc main_v6)) (V (Proc.devRef .tc main_arg9)) := by
  after_results
  rfl

set_option maxHeartbeats 2000000 in
theorem index4_read : after indexOps4 V (Proc.devRef .tc main_v55) = indexA5 (V (Proc.devRef .tc main_v54)) := by
  simp only [indexOps4, argminOps5, TRef.binary, TRef.nullary, TRef.quaternary, TRef.ternary, TRef.unary, TRef.toBuf, TRef.ofBuf, cast_eq]
  after_results_simp
  rfl

set_option maxHeartbeats 2000000 in
theorem level4_read : after levelOps4 V (Proc.devRef .tc main_v56)
    = levelA5 (V (Proc.devRef .tc main_arg9)) (V (Proc.devRef .tc main_v55)) := by
  simp only [levelOps4, takeOps5, TRef.binary, TRef.nullary, TRef.quaternary, TRef.ternary, TRef.unary, TRef.toBuf, TRef.ofBuf, cast_eq]
  after_results_simp
  rfl

theorem stackB_read : after stackOpsB (after stackOpsA V) (Proc.devRef .tc main_v62)
    = stackA (V (Proc.devRef .tc main_v15)) (V (Proc.devRef .tc main_v25)) (V (Proc.devRef .tc main_v35))
        (V (Proc.devRef .tc main_v45)) (V (Proc.devRef .tc main_v55)) := by
  after_results
  rfl

theorem stackC_read : after stackOpsC V (Proc.devRef .tc main_v68)
    = stackA (V (Proc.devRef .tc main_v16)) (V (Proc.devRef .tc main_v26)) (V (Proc.devRef .tc main_v36))
        (V (Proc.devRef .tc main_v46)) (V (Proc.devRef .tc main_v56)) := by
  after_results
  rfl

theorem ste_read : after lossOps V (Proc.devRef .tc main_v70)
    = steA (V (Proc.devRef .tc main_v6)) (V (Proc.devRef .tc main_v68)) := by
  after_results
  rfl

theorem loss_read : after lossOps V (Proc.devRef .tc main_v81)
    = lossA (V (Proc.devRef .tc main_v6)) (steA (V (Proc.devRef .tc main_v6)) (V (Proc.devRef .tc main_v68))) := by
  after_results
  rfl

theorem out_read : after outOps V (Proc.devRef .tc main_v88)
    = outA (V (Proc.devRef .tc main_v70)) (V (Proc.devRef .tc main_arg3)) (V (Proc.devRef .tc main_arg4)) := by
  after_results
  rfl

theorem codes_read : after outOps V (Proc.devRef .tc main_v89) = codesA (V (Proc.devRef .tc main_v62)) := by
  after_results
  rfl

end Blocks

end Cert.Proof.Ref

end
-- ==== Proof.Words.lean ====
/-
  The float words of the two programs' constants and of the precondition's bound, as the extended reals they denote.
-/
module

public import Idealize.ShloMosaic.Lib.Pointwise

@[expose] public section

noncomputable section

namespace Cert.Proof

open Idealize.ShloMosaic

/-- The arg-min's start. -/
theorem top_word : Ideal.ofBits .f32 0x7F800000#32 = (⊤ : EReal) := by simp [Ideal.ofBits, Ideal.ieee]

/-- The number of latents. -/
theorem count_word : Ideal.ofBits .f32 0x48200000#32 = ((163840 : ℝ) : EReal) := by
  simp [Ideal.ofBits, Ideal.ieee]
  rw [← EReal.coe_mul]
  norm_num

/-- The divisor of the two means. -/
theorem ten_word : Ideal.ofBits .f32 0x41200000#32 = ((10 : ℝ) : EReal) := by
  simp [Ideal.ofBits, Ideal.ieee]
  rw [← EReal.coe_mul]
  norm_num

/-- The filler level. -/
theorem filler_word : Ideal.ofBits .f32 0x7149F2CA#32 = ((13234890 * 2 ^ 76 : ℝ) : EReal) := by
  simp [Ideal.ofBits, Ideal.ieee, -EReal.coe_mul]

/-- The precondition's bound. -/
theorem bound_word : Ideal.ofBits .f32 0x551184E7#32 = ((9536743 * 2 ^ 20 : ℝ) : EReal) := by
  simp [Ideal.ofBits, Ideal.ieee, -EReal.coe_mul]

end Cert.Proof

end
-- ==== Proof.RefValue.lean ====
/-
  The reference's arrays read at an element on the extended reals: the latent array as a sum, the distances, the
  indices as the nearest level's, the levels there.
-/
module

public import proofs.«01_k».proof.Proof.RefReads
public import proofs.«01_k».proof.Proof.Near
public import proofs.«01_k».proof.Proof.Words
public import Idealize.ShloMosaic.Lib.Pointwise

@[expose] public section

set_option maxRecDepth 16384

noncomputable section

namespace Cert.Proof.Ref

open Cert.ReferenceIdeal Cert.ReferenceIdeal.Gen Idealize.ShloMosaic

/-- The latent of sample `b`, position `n`, column `c`. -/
def lat (z : FVec Ideal S32x768x32x32 .f32) (w : FVec Ideal S768x5 .f32) (o : FVec Ideal S5 .f32)
    (b : Fin 32) (n : Fin 1024) (c : Fin 5) : EReal :=
  (∑ k : Fin 768, z (ix4 b k ⟨n.val / 32, by omega⟩ ⟨n.val % 32, by omega⟩) * w (ix2 k c)) + o (ix1 c)

theorem latA_apply (z : FVec Ideal S32x768x32x32 .f32) (w : FVec Ideal S768x5 .f32) (o : FVec Ideal S5 .f32)
    (b : Fin 32) (n : Fin 1024) (c : Fin 5) : latA z w o (ix4 b n 0 c) = lat z w o b n c := by
  pointwise [latA, lat]

theorem distA0_apply (x : FVec Ideal S32x1024x1x5 .f32) (v : FVec Ideal S8 .f32) (b : Fin 32) (n : Fin 1024) (k : Fin 8) :
    distA0 x v (ix4 b n 0 k) = dist (x (ix4 b n 0 0)) (v (ix1 k)) := by
  pointwise [distA0, dist]
  rfl

theorem distA1_apply (x : FVec Ideal S32x1024x1x5 .f32) (v : FVec Ideal S8 .f32) (b : Fin 32) (n : Fin 1024) (k : Fin 8) :
    distA1 x v (ix4 b n 0 k) = dist (x (ix4 b n 0 1)) (v (ix1 k)) := by
  pointwise [distA1, dist]
  rfl

theorem distA2_apply (x : FVec Ideal S32x1024x1x5 .f32) (v : FVec Ideal S8 .f32) (b : Fin 32) (n : Fin 1024) (k : Fin 8) :
    distA2 x v (ix4 b n 0 k) = dist (x (ix4 b n 0 2)) (v (ix1 k)) := by
  pointwise [distA2, dist]
  rfl

theorem distA3_apply (x : FVec Ideal S32x1024x1x5 .f32) (v : FVec Ideal S6 .f32) (b : Fin 32) (n : Fin 1024) (k : Fin 6) :
    distA3 x v (ix4 b n 0 k) = dist (x (ix4 b n 0 3)) (v (ix1 k)) := by
  pointwise [distA3, dist]
  rfl

theorem distA4_apply (x : FVec Ideal S32x1024x1x5 .f32) (v : FVec Ideal S5 .f32) (b : Fin 32) (n : Fin 1024) (k : Fin 5) :
    distA4 x v (ix4 b n 0 k) = dist (x (ix4 b n 0 4)) (v (ix1 k)) := by
  pointwise [distA4, dist]
  rfl

/-- A small word is not below zero. -/
theorem small_not_neg {k : ℕ} (hk : k < 2 ^ 31) : ¬ IntOp.cmpi .slt (BitVec.ofNat 32 k) 0#32 = 1#1 := by
  have e : (BitVec.ofNat 32 k).toNat = k := by rw [BitVec.toNat_ofNat]; omega
  rw [StableHlo.Predicate.slt_iff_toNat (by omega) (by decide)]
  simp

theorem small_ge {k : ℕ} (hk : k < 2 ^ 31) : IntOp.cmpi .sge (BitVec.ofNat 32 k) 0#32 = 1#1 := by
  have e : (BitVec.ofNat 32 k).toNat = k := by rw [BitVec.toNat_ofNat]; omega
  rw [StableHlo.Predicate.sge_iff_toNat (by omega) (by decide)]
  simp

theorem small_le {k n : ℕ} (hk : k ≤ n) (hn : n < 2 ^ 31) : IntOp.cmpi .sle (BitVec.ofNat 32 k) (BitVec.ofNat 32 n) = 1#1 := by
  have e : (BitVec.ofNat 32 k).toNat = k := by rw [BitVec.toNat_ofNat]; omega
  have e' : (BitVec.ofNat 32 n).toNat = n := by rw [BitVec.toNat_ofNat]; omega
  rw [StableHlo.Predicate.sle_iff_toNat (by omega) (by omega)]
  omega

/-- The gather of single entries of a row of `N`, one per start index. -/
abbrev rowGather (N : ℕ) (wf : GatherDims.WF ⟨1, ![N]⟩ ⟨4, ![32, 1024, 1, 1]⟩ ⟨3, ![32, 1024, 1]⟩ [] [0] [] [0] [] 3 ![1]) :
    GatherDims ⟨1, ![N]⟩ ⟨4, ![32, 1024, 1, 1]⟩ ⟨3, ![32, 1024, 1]⟩ where
  offsetDims := []
  collapsedSliceDims := [0]
  operandBatchingDims := []
  startIndicesBatchingDims := []
  startIndexMap := [0]
  indexVectorDim := 3
  sliceSizes := ![1]
  wf := wf

theorem rowGather_apply {α : Type} {N : ℕ} (hN : 0 < N)
    (wf : GatherDims.WF ⟨1, ![N]⟩ ⟨4, ![32, 1024, 1, 1]⟩ ⟨3, ![32, 1024, 1]⟩ [] [0] [] [0] [] 3 ![1])
    (x : (⟨1, ![N]⟩ : Shape).Idx → α) (idx : IVec ⟨4, ![32, 1024, 1, 1]⟩ 32) (b : Fin 32) (n : Fin 1024) :
    Host.gather (rowGather N wf) x idx (ix3 b n 0) = x (ix1 ⟨min (idx (ix4 b n 0 0)).toInt.toNat (N - 1), by omega⟩) := by
  unfold Host.gather
  refine congrArg x (funext fun a => ?_)
  obtain rfl : a = 0 := Subsingleton.elim _ _
  refine Fin.ext ?_
  show (rowGather N wf).start (ix3 b n 0) idx 0 + (rowGather N wf).batchCoord (ix3 b n 0) 0
    + (rowGather N wf).offCoord (ix3 b n 0) 0 = _
  have hoff : (0 : Fin 1) ∉ (rowGather N wf).sKept := fun h =>
    ((GatherDims.mem_sKept _ _).mp h).1 (List.mem_singleton.mpr rfl)
  have hmem : (0 : Fin 1) ∈ (rowGather N wf).startIndexMap := List.mem_singleton.mpr rfl
  have hsi : (rowGather N wf).siIdx (ix3 b n 0) ⟨List.idxOf (0 : Fin 1) (rowGather N wf).startIndexMap,
      List.idxOf_lt_length_iff.2 hmem⟩ = ix4 b n 0 0 := by
    funext c
    refine Fin.ext ?_
    match c with
    | ⟨0, _⟩ => rfl
    | ⟨1, _⟩ => rfl
    | ⟨2, _⟩ => rfl
    | ⟨3, _⟩ => rfl
  rw [GatherDims.batchCoord_eq_zero _ _ _ List.not_mem_nil, GatherDims.offCoord_eq_zero _ _ _ hoff, GatherDims.start,
    dif_pos hmem, hsi]
  rfl

theorem indexA8_eq (d : FVec Ideal S32x1024x1x8 .f32) : indexA8 d = fun j =>
    (Host.argReduce reducer_argmin_f32_i32 d (iotaInDim S32x1024x1x8 32 3) (constant S_ .f32 0x7F800000#32)
      (constantI S_ 32 0#32) reducesTo_S32x1024x1x8_S32x1024x1_d3 h_S_ j).2 := rfl

/-- The index of 8 distances of one number to a row of levels is the nearest level's. -/
theorem indexA8_apply (d : FVec Ideal S32x1024x1x8 .f32) (b : Fin 32) (n : Fin 1024) (a : EReal) (v : ℕ → EReal)
    (hd : ∀ k : Fin 8, d (ix4 b n 0 k) = dist a (v k.val)) :
    indexA8 d (ix3 b n 0) = BitVec.ofNat 32 (near a v 7) := by
  have hR : (⟨4, ![32, 1024, 1, 8]⟩ : Shape).Reduces [3] S32x1024x1 := by decide
  have hl : ∀ k : Fin 8, hR.lift (ix3 b n 0) k = (ix4 b n 0 k : S32x1024x1x8.Idx) := fun k => by
    funext c
    match c with
    | ⟨0, _⟩ => rfl
    | ⟨1, _⟩ => rfl
    | ⟨2, _⟩ => rfl
    | ⟨3, _⟩ => rfl
  have hi : ∀ k : Fin 8, iotaInDim S32x1024x1x8 32 3 (hR.lift (ix3 b n 0) k) = BitVec.ofNat 32 k.val := fun k => by
    rw [hl k]
    pointwise
  refine (congrFun (indexA8_eq d) (ix3 b n 0)).trans ?_
  exact argmin_last (d := ![32, 1024, 1, 8]) (m := 7) d (iotaInDim S32x1024x1x8 32 3) _ _ h_S_
    reducesTo_S32x1024x1x8_S32x1024x1_d3 hR (ix3 b n 0) rfl (by norm_num) a v
    (fun k => (congrArg d (hl k)).trans (hd k)) hi top_word rfl

theorem wrapA8_apply (i : IVec S32x1024x1 32) (b : Fin 32) (n : Fin 1024) (k : ℕ) (hk : k < 8)
    (hi : i (ix3 b n 0) = BitVec.ofNat 32 k) : wrapA8 i (ix4 b n 0 0) = BitVec.ofNat 32 k := by
  pointwise [wrapA8]
  rw [hi, Scalar.select]
  exact if_neg (small_not_neg (by omega))

/-- The level at a small index is that entry of the row. -/
theorem levelA8_apply (v : FVec Ideal S8 .f32) (i : IVec S32x1024x1 32) (b : Fin 32) (n : Fin 1024) (k : ℕ) (hk : k < 8)
    (hi : i (ix3 b n 0) = BitVec.ofNat 32 k) : levelA8 v i (ix3 b n 0) = v (ix1 ⟨k, hk⟩) := by
  have hw := wrapA8_apply i b n k hk hi
  have hg : Host.gather gather_S8_S32x1024x1x1_S32x1024x1_n_0_n_n_0_3_1 v (wrapA8 i) (ix3 b n 0) = v (ix1 ⟨k, hk⟩) := by
    refine (rowGather_apply (N := 8) (by norm_num) gather_S8_S32x1024x1x1_S32x1024x1_n_0_n_n_0_3_1.wf v (wrapA8 i) b n).trans ?_
    refine congrArg (fun q => v (ix1 q)) (Fin.ext ?_)
    show min (wrapA8 i (ix4 b n 0 0)).toInt.toNat (8 - 1) = k
    rw [hw, StableHlo.Predicate.toInt_ofNat_small k (by omega)]
    omega
  unfold levelA8
  pointwise
  rw [hg]
  simp only [Finset.univ_unique, Finset.fold_singleton, Fin.default_eq_zero, Fin.isValue, hw, small_ge (show k < 2 ^ 31 by omega)]
  rw [show (7#32 : BitVec 32) = BitVec.ofNat 32 7 from rfl, small_le (show k ≤ 7 by omega) (by norm_num)]
  rfl

theorem indexA6_eq (d : FVec Ideal S32x1024x1x6 .f32) : indexA6 d = fun j =>
    (Host.argReduce reducer_argmin_f32_i32 d (iotaInDim S32x1024x1x6 32 3) (constant S_ .f32 0x7F800000#32)
      (constantI S_ 32 0#32) reducesTo_S32x1024x1x6_S32x1024x1_d3 h_S_ j).2 := rfl

/-- The index of 6 distances of one number to a row of levels is the nearest level's. -/
theorem indexA6_apply (d : FVec Ideal S32x1024x1x6 .f32) (b : Fin 32) (n : Fin 1024) (a : EReal) (v : ℕ → EReal)
    (hd : ∀ k : Fin 6, d (ix4 b n 0 k) = dist a (v k.val)) :
    indexA6 d (ix3 b n 0) = BitVec.ofNat 32 (near a v 5) := by
  have hR : (⟨4, ![32, 1024, 1, 6]⟩ : Shape).Reduces [3] S32x1024x1 := by decide
  have hl : ∀ k : Fin 6, hR.lift (ix3 b n 0) k = (ix4 b n 0 k : S32x1024x1x6.Idx) := fun k => by
    funext c
    match c with
    | ⟨0, _⟩ => rfl
    | ⟨1, _⟩ => rfl
    | ⟨2, _⟩ => rfl
    | ⟨3, _⟩ => rfl
  have hi : ∀ k : Fin 6, iotaInDim S32x1024x1x6 32 3 (hR.lift (ix3 b n 0) k) = BitVec.ofNat 32 k.val := fun k => by
    rw [hl k]
    pointwise
  refine (congrFun (indexA6_eq d) (ix3 b n 0)).trans ?_
  exact argmin_last (d := ![32, 1024, 1, 6]) (m := 5) d (iotaInDim S32x1024x1x6 32 3) _ _ h_S_
    reducesTo_S32x1024x1x6_S32x1024x1_d3 hR (ix3 b n 0) rfl (by norm_num) a v
    (fun k => (congrArg d (hl k)).trans (hd k)) hi top_word rfl

theorem wrapA6_apply (i : IVec S32x1024x1 32) (b : Fin 32) (n : Fin 1024) (k : ℕ) (hk : k < 6)
    (hi : i (ix3 b n 0) = BitVec.ofNat 32 k) : wrapA6 i (ix4 b n 0 0) = BitVec.ofNat 32 k := by
  pointwise [wrapA6]
  rw [hi, Scalar.select]
  exact if_neg (small_not_neg (by omega))

/-- The level at a small index is that entry of the row. -/
theorem levelA6_apply (v : FVec Ideal S6 .f32) (i : IVec S32x1024x1 32) (b : Fin 32) (n : Fin 1024) (k : ℕ) (hk : k < 6)
    (hi : i (ix3 b n 0) = BitVec.ofNat 32 k) : levelA6 v i (ix3 b n 0) = v (ix1 ⟨k, hk⟩) := by
  have hw := wrapA6_apply i b n k hk hi
  have hg : Host.gather gather_S6_S32x1024x1x1_S32x1024x1_n_0_n_n_0_3_1 v (wrapA6 i) (ix3 b n 0) = v (ix1 ⟨k, hk⟩) := by
    refine (rowGather_apply (N := 6) (by norm_num) gather_S6_S32x1024x1x1_S32x1024x1_n_0_n_n_0_3_1.wf v (wrapA6 i) b n).trans ?_
    refine congrArg (fun q => v (ix1 q)) (Fin.ext ?_)
    show min (wrapA6 i (ix4 b n 0 0)).toInt.toNat (6 - 1) = k
    rw [hw, StableHlo.Predicate.toInt_ofNat_small k (by omega)]
    omega
  unfold levelA6
  pointwise
  rw [hg]
  simp only [Finset.univ_unique, Finset.fold_singleton, Fin.default_eq_zero, Fin.isValue, hw, small_ge (show k < 2 ^ 31 by omega)]
  rw [show (5#32 : BitVec 32) = BitVec.ofNat 32 5 from rfl, small_le (show k ≤ 5 by omega) (by norm_num)]
  rfl

theorem indexA5_eq (d : FVec Ideal S32x1024x1x5 .f32) : indexA5 d = fun j =>
    (Host.argReduce reducer_argmin_f32_i32 d (iotaInDim S32x1024x1x5 32 3) (constant S_ .f32 0x7F800000#32)
      (constantI S_ 32 0#32) reducesTo_S32x1024x1x5_S32x1024x1_d3 h_S_ j).2 := rfl

/-- The index of 5 distances of one number to a row of levels is the nearest level's. -/
theorem indexA5_apply (d : FVec Ideal S32x1024x1x5 .f32) (b : Fin 32) (n : Fin 1024) (a : EReal) (v : ℕ → EReal)
    (hd : ∀ k : Fin 5, d (ix4 b n 0 k) = dist a (v k.val)) :
    indexA5 d (ix3 b n 0) = BitVec.ofNat 32 (near a v 4) := by
  have hR : (⟨4, ![32, 1024, 1, 5]⟩ : Shape).Reduces [3] S32x1024x1 := by decide
  have hl : ∀ k : Fin 5, hR.lift (ix3 b n 0) k = (ix4 b n 0 k : S32x1024x1x5.Idx) := fun k => by
    funext c
    match c with
    | ⟨0, _⟩ => rfl
    | ⟨1, _⟩ => rfl
    | ⟨2, _⟩ => rfl
    | ⟨3, _⟩ => rfl
  have hi : ∀ k : Fin 5, iotaInDim S32x1024x1x5 32 3 (hR.lift (ix3 b n 0) k) = BitVec.ofNat 32 k.val := fun k => by
    rw [hl k]
    pointwise
  refine (congrFun (indexA5_eq d) (ix3 b n 0)).trans ?_
  exact argmin_last (d := ![32, 1024, 1, 5]) (m := 4) d (iotaInDim S32x1024x1x5 32 3) _ _ h_S_
    reducesTo_S32x1024x1x5_S32x1024x1_d3 hR (ix3 b n 0) rfl (by norm_num) a v
    (fun k => (congrArg d (hl k)).trans (hd k)) hi top_word rfl

theorem wrapA5_apply (i : IVec S32x1024x1 32) (b : Fin 32) (n : Fin 1024) (k : ℕ) (hk : k < 5)
    (hi : i (ix3 b n 0) = BitVec.ofNat 32 k) : wrapA5 i (ix4 b n 0 0) = BitVec.ofNat 32 k := by
  pointwise [wrapA5]
  rw [hi, Scalar.select]
  exact if_neg (small_not_neg (by omega))

/-- The level at a small index is that entry of the row. -/
theorem levelA5_apply (v : FVec Ideal S5 .f32) (i : IVec S32x1024x1 32) (b : Fin 32) (n : Fin 1024) (k : ℕ) (hk : k < 5)
    (hi : i (ix3 b n 0) = BitVec.ofNat 32 k) : levelA5 v i (ix3 b n 0) = v (ix1 ⟨k, hk⟩) := by
  have hw := wrapA5_apply i b n k hk hi
  have hg : Host.gather gather_S5_S32x1024x1x1_S32x1024x1_n_0_n_n_0_3_1 v (wrapA5 i) (ix3 b n 0) = v (ix1 ⟨k, hk⟩) := by
    refine (rowGather_apply (N := 5) (by norm_num) gather_S5_S32x1024x1x1_S32x1024x1_n_0_n_n_0_3_1.wf v (wrapA5 i) b n).trans ?_
    refine congrArg (fun q => v (ix1 q)) (Fin.ext ?_)
    show min (wrapA5 i (ix4 b n 0 0)).toInt.toNat (5 - 1) = k
    rw [hw, StableHlo.Predicate.toInt_ofNat_small k (by omega)]
    omega
  unfold levelA5
  pointwise
  rw [hg]
  simp only [Finset.univ_unique, Finset.fold_singleton, Fin.default_eq_zero, Fin.isValue, hw, small_ge (show k < 2 ^ 31 by omega)]
  rw [show (4#32 : BitVec 32) = BitVec.ofNat 32 4 from rfl, small_le (show k ≤ 4 by omega) (by norm_num)]
  rfl

theorem stackA_apply {α : Type} (a0 a1 a2 a3 a4 : S32x1024x1.Idx → α) (b : Fin 32) (n : Fin 1024) (c : Fin 5) :
    stackA a0 a1 a2 a3 a4 (ix4 b n 0 c) = (![a0, a1, a2, a3, a4] : Fin 5 → S32x1024x1.Idx → α) c (ix3 b n 0) := by
  pointwise [stackA]
  fin_cases c <;> rfl

theorem outA_apply (s : FVec Ideal S32x1024x1x5 .f32) (w : FVec Ideal S5x768 .f32) (o : FVec Ideal S768 .f32)
    (b : Fin 32) (d : Fin 768) (i j : Fin 32) :
    outA s w o (ix4 b d i j) = (∑ c : Fin 5, s (ix4 b ⟨i.val * 32 + j.val, by omega⟩ 0 c) * w (ix2 c d)) + o (ix1 d) := by
  pointwise [outA]

theorem codesA_apply (x : IVec S32x1024x1x5 32) (b : Fin 32) (i j : Fin 32) (c : Fin 5) :
    codesA x (ix4 b i j c) = x (ix4 b ⟨i.val * 32 + j.val, by omega⟩ 0 c) := by
  pointwise [codesA]

theorem meanA_apply (d : FVec Ideal S32x1024x1x5 .f32) (j : S_.Idx) :
    meanA d j = (∑ i : S32x1024x1x5.Idx, d i * d i) * ((1 / 163840 : ℝ) : EReal) * ((1 / 10 : ℝ) : EReal) := by
  pointwise [meanA]
  rw [Ideal.hostReduceAdd_total _ (fun b => b.elim0), count_word, ten_word, Ideal.div_coe (by norm_num),
    Ideal.div_coe (by norm_num), zero_add]
  rfl

end Cert.Proof.Ref

end
-- ==== Proof.KernelArray.lean ====
/-
  The three arrays the kernel leaves, and the program's results, element by element in terms of the arguments.
-/
module

public import proofs.«01_k».proof.Proof.KernelHost
public import proofs.«01_k».proof.Proof.RefValue
public import proofs.«01_k».proof.Proof.Gen.KernelIdeal.Run

@[expose] public section

set_option maxRecDepth 16384

noncomputable section

namespace Cert.KernelIdeal.Arrays

open Cert.KernelIdeal Cert.KernelIdeal.Gen Cert.KernelIdeal.Chain Cert.KernelIdeal.Host Cert.Proof
open Idealize.ShloMosaic Idealize.ShloMosaic.TcCoe
open Cert.Proof.Ref (lat)

variable (m : (ℓ : Loc nD τ sig) → Buf (Elt Ideal) ℓ) (c : Dev nD)

/-- The latent of sample `b` at position `n`, column `r`. -/
def latK (b : Fin 32) (n : Fin 1024) (r : Fin 5) : EReal :=
  lat (m ((c : Thread nD τ).loc main_arg0)) (m ((c : Thread nD τ).loc main_arg1)) (m ((c : Thread nD τ).loc main_arg2)) b n r

/-- The levels of column `r`, filled up to eight. -/
def levK (r : Fin 5) : ℕ → EReal :=
  lev (m ((c : Thread nD τ).loc main_arg5)) (m ((c : Thread nD τ).loc main_arg6)) (m ((c : Thread nD τ).loc main_arg7))
    (m ((c : Thread nD τ).loc main_arg8)) (m ((c : Thread nD τ).loc main_arg9)) r

/-- The number of the level the kernel keeps. -/
def codeK (b : Fin 32) (n : Fin 1024) (r : Fin 5) : ℕ := near (latK m c b n r) (levK m c r) 7

/-- The level the kernel keeps. -/
def keptK (b : Fin 32) (n : Fin 1024) (r : Fin 5) : EReal := levK m c r (codeK m c b n r)

theorem lat_point (t : Fin cfg0.N) (s : Fin 4) (r : Fin 5) (n : Fin 1024) :
    blockLat (iblk m c 0 t) (iblk m c 1 t) (iblk m c 2 t) s r n = latK m c (sample t s) n r := by
  unfold blockLat latK lat
  refine Ideal.add_congr (Finset.sum_congr rfl fun k _ => ?_) (blk2 m c t r)
  exact (Ideal.mul_congr (blk1 m c t r k) (blk0 m c t s k n)).trans (mul_comm _ _)

theorem row_point (t : Fin cfg0.N) (r : Fin 5) (k : ℕ) (hk : k ≤ 7) : row (iblk m c 5 t) r k = levK m c r k :=
  (row_of_lt (iblk m c 5 t) r ⟨k, by omega⟩).trans (blk5 m c t r ⟨k, by omega⟩)

theorem near_point (t : Fin cfg0.N) (s : Fin 4) (r : Fin 5) (n : Fin 1024) :
    near (blockLat (iblk m c 0 t) (iblk m c 1 t) (iblk m c 2 t) s r n) (row (iblk m c 5 t) r) 7 = codeK m c (sample t s) n r := by
  rw [lat_point]
  exact near_congr _ _ _ 7 (row_point m c t r)

theorem level_point (t : Fin cfg0.N) (s : Fin 4) (r : Fin 5) (n : Fin 1024) :
    blockLevel (iblk m c 0 t) (iblk m c 1 t) (iblk m c 2 t) (iblk m c 5 t) s r n = keptK m c (sample t s) n r := by
  unfold blockLevel keptK
  rw [near_point]
  exact row_point m c t r _ (near_le _ _ _)

/-- The output projection's weight and bias. -/
def weightK (r : Fin 5) (d : Fin 768) : EReal := (m ((c : Thread nD τ).loc main_arg3) : FVec Ideal S5x768 .f32) (ix2 r d)
def biasK (d : Fin 768) : EReal := (m ((c : Thread nD τ).loc main_arg4) : FVec Ideal S768 .f32) (ix1 d)

/-- The output array. -/
def outArr : FVec Ideal S32x768x1024 .f32 := fun i =>
  (∑ r : Fin 5, weightK m c r (i 1) * keptK m c (i 0) (i 2) r) + biasK m c (i 1)

/-- The array of codes. -/
def codeArr : IVec S32x5x1024 32 := fun i => BitVec.ofNat 32 (codeK m c (i 0) (i 2) (i 1))

/-- The square of one latent's distance to its level. -/
def sqK (b : Fin 32) (n : Fin 1024) (r : Fin 5) : EReal :=
  (keptK m c b n r - latK m c b n r) * (keptK m c b n r - latK m c b n r)

/-- The sample at place `s` of group `p`. -/
def group (p : Fin 8) (s : Fin 4) : Fin 32 := ⟨p.val * 4 + s.val, by omega⟩

/-- The grid points' losses: four samples' squares, scaled. -/
def lossArr : FVec Ideal S8x1x1 .f32 := fun i =>
  ((1 / 819200 : ℝ) : EReal) * ∑ s : Fin 4, ∑ r : Fin 5, ∑ n : Fin 1024, sqK m c (group (i 0) s) n r

theorem out_point (t : Fin cfg0.N) (s : Fin 4) (d : Fin 768) (n : Fin 1024) :
    blockOut (iblk m c 0 t) (iblk m c 1 t) (iblk m c 2 t) (iblk m c 3 t) (iblk m c 4 t) (iblk m c 5 t) s d n
      = outArr m c (ix3 (sample t s) d n) := by
  unfold blockOut outArr
  refine Ideal.add_congr (Finset.sum_congr rfl fun r _ => ?_) (blk4 m c t d)
  exact Ideal.mul_congr (blk3 m c t r d) (level_point m c t s r n)

theorem code_point (t : Fin cfg0.N) (s : Fin 4) (r : Fin 5) (n : Fin 1024) :
    blockCode (iblk m c 0 t) (iblk m c 1 t) (iblk m c 2 t) (iblk m c 5 t) s r n = codeArr m c (ix3 (sample t s) r n) := by
  unfold blockCode codeArr
  rw [near_point]
  rfl

theorem loss_point (t : Fin cfg0.N) (p : Fin 8) (hp : p.val = t.val) :
    blockLoss (iblk m c 0 t) (iblk m c 1 t) (iblk m c 2 t) (iblk m c 5 t) = lossArr m c (ix3 p 0 0) := by
  unfold blockLoss lossArr blockSq
  refine Ideal.mul_congr rfl (Finset.sum_congr rfl fun s _ => Finset.sum_congr rfl fun r _ => Finset.sum_congr rfl fun n _ => ?_)
  have e : sample t s = group p s := Fin.ext (by show t.val * 4 + s.val = p.val * 4 + s.val; rw [hp])
  rw [level_point, lat_point, e]
  rfl

theorem final6 : (dats m 0 c).arrAt 6 cfg0.N = outArr m c := by
  refine (dats m 0 c).arrAt_eq_of_covers 6 _ (by decide +kernel) fun t _ y => ?_
  blk_simp
  rw [after0_6]
  idx_vars y
  refine (out6_apply _ _ _ _ _ _ y0 y1 y2).trans ((out_point m c t y0 y1 y2).trans ?_)
  blk_ext [idx t, sample]

theorem final7 : (dats m 0 c).arrAt 7 cfg0.N = codeArr m c := by
  refine (dats m 0 c).arrAt_eq_of_covers 7 _ (by decide +kernel) fun t _ y => ?_
  blk_simp
  rw [after0_7]
  idx_vars y
  refine (out7_apply _ _ _ _ _ _ y0 y1 y2).trans ((code_point m c t y0 y1 y2).trans ?_)
  blk_ext [idx t, sample]

theorem final8 : (dats m 0 c).arrAt 8 cfg0.N = lossArr m c := by
  refine (dats m 0 c).arrAt_eq_of_covers 8 _ (by decide +kernel) fun t _ y => ?_
  blk_simp
  rw [after0_8]
  idx_vars y
  have e0 : y0 = 0 := Subsingleton.elim _ _
  have e1 : y1 = 0 := Subsingleton.elim _ _
  have e2 : y2 = 0 := Subsingleton.elim _ _
  subst e0 e1 e2
  refine (out8_apply _ _ _ _ _ _).trans ((loss_point m c t ⟨t.val, point_lt t⟩ rfl).trans ?_)
  blk_ext [idx t]

theorem out_shape_apply (x : FVec Ideal S32x768x1024 .f32) (b : Fin 32) (d : Fin 768) (i j : Fin 32) :
    shapeCast S32x768x32x32 x shapeCasts_S32x768x1024_S32x768x32x32 (ix4 b d i j) = x (ix3 b d ⟨i.val * 32 + j.val, by omega⟩) := by
  pointwise

theorem code_shape_apply (x : IVec S32x5x1024 32) (b i j : Fin 32) (r : Fin 5) :
    shapeCast S32x32x32x5 (transpose S32x1024x5 [0, 2, 1] x transposes_S32x5x1024_S32x1024x5_0_2_1) shapeCasts_S32x1024x5_S32x32x32x5 (ix4 b i j r)
      = x (ix3 b r ⟨i.val * 32 + j.val, by omega⟩) := by
  pointwise

theorem loss_sum_apply (x : FVec Ideal S8x1x1 .f32) (j : S_.Idx) :
    Host.reduceAdd x (constant S_ .f32 0x00000000#32) reducesTo_S8x1x1_S_d0_1_2 h_S_ j = ∑ p : Fin 8, x (ix3 p 0 0) := by
  pointwise
  exact Finset.sum_congr rfl fun p _ => by rw [Fin.sum_univ_one, Fin.sum_univ_one]

end Cert.KernelIdeal.Arrays

end
-- ==== Proof.RefRun.lean ====
/-
  The reference's run: its three result buffers end at the array functions of its arguments, its arguments unchanged,
  every counter at zero.
-/
module

public import proofs.«01_k».proof.Proof.RefReads
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The five columns' indices. -/
def indicesA (x : FVec F S32x1024x1x5 .f32) (v0 v1 v2 : FVec F S8 .f32) (v3 : FVec F S6 .f32) (v4 : FVec F S5 .f32) :
    IVec S32x1024x1x5 32 :=
  stackA (indexA8 (distA0 x v0)) (indexA8 (distA1 x v1)) (indexA8 (distA2 x v2)) (indexA6 (distA3 x v3)) (indexA5 (distA4 x v4))

/-- The five columns' nearest levels. -/
def levelsA (x : FVec F S32x1024x1x5 .f32) (v0 v1 v2 : FVec F S8 .f32) (v3 : FVec F S6 .f32) (v4 : FVec F S5 .f32) :
    FVec F S32x1024x1x5 .f32 :=
  stackA (levelA8 v0 (indexA8 (distA0 x v0))) (levelA8 v1 (indexA8 (distA1 x v1))) (levelA8 v2 (indexA8 (distA2 x v2)))
    (levelA6 v3 (indexA6 (distA3 x v3))) (levelA5 v4 (indexA5 (distA4 x v4)))

/-- Two lists in a row: the second from what the first leaves. -/
theorem after_app : (xs ys : List (HloOp τ sig (Elt F))) → (V : Valuation τ sig (Elt F)) →
    after (xs ++ ys) V = after ys (after xs V)
  | [], _, _ => rfl
  | x :: xs, ys, V => after_app xs ys (x.result V)

section Values

variable (V : Valuation τ sig (Elt F))

/-- The latent array of the arguments as given. -/
def latV : FVec F S32x1024x1x5 .f32 :=
  latA (V (Proc.devRef .tc main_arg0)) (V (Proc.devRef .tc main_arg1)) (V (Proc.devRef .tc main_arg2))

/-- Its straight-through values. -/
def steV : FVec F S32x1024x1x5 .f32 :=
  steA (latV V) (levelsA (latV V) (V (Proc.devRef .tc main_arg5)) (V (Proc.devRef .tc main_arg6))
    (V (Proc.devRef .tc main_arg7)) (V (Proc.devRef .tc main_arg8)) (V (Proc.devRef .tc main_arg9)))

/-- The buffers before the first block. -/
def st0 : Valuation τ sig (Elt F) := V
/-- The buffers after `headOps`. -/
def st1 : Valuation τ sig (Elt F) := after headOps (st0 V)
/-- The buffers after `distOps0`. -/
def st2 : Valuation τ sig (Elt F) := after distOps0 (st1 V)
/-- The buffers after `indexOps0`. -/
def st3 : Valuation τ sig (Elt F) := after indexOps0 (st2 V)
/-- The buffers after `levelOps0`. -/
def st4 : Valuation τ sig (Elt F) := after levelOps0 (st3 V)
/-- The buffers after `distOps1`. -/
def st5 : Valuation τ sig (Elt F) := after distOps1 (st4 V)
/-- The buffers after `indexOps1`. -/
def st6 : Valuation τ sig (Elt F) := after indexOps1 (st5 V)
/-- The buffers after `levelOps1`. -/
def st7 : Valuation τ sig (Elt F) := after levelOps1 (st6 V)
/-- The buffers after `distOps2`. -/
def st8 : Valuation τ sig (Elt F) := after distOps2 (st7 V)
/-- The buffers after `indexOps2`. -/
def st9 : Valuation τ sig (Elt F) := after indexOps2 (st8 V)
/-- The buffers after `levelOps2`. -/
def st10 : Valuation τ sig (Elt F) := after levelOps2 (st9 V)
/-- The buffers after `distOps3`. -/
def st11 : Valuation τ sig (Elt F) := after distOps3 (st10 V)
/-- The buffers after `indexOps3`. -/
def st12 : Valuation τ sig (Elt F) := after indexOps3 (st11 V)
/-- The buffers after `levelOps3`. -/
def st13 : Valuation τ sig (Elt F) := after levelOps3 (st12 V)
/-- The buffers after `distOps4`. -/
def st14 : Valuation τ sig (Elt F) := after distOps4 (st13 V)
/-- The buffers after `indexOps4`. -/
def st15 : Valuation τ sig (Elt F) := after indexOps4 (st14 V)
/-- The buffers after `levelOps4`. -/
def st16 : Valuation τ sig (Elt F) := after levelOps4 (st15 V)
/-- The buffers after `stackOpsA`. -/
def st17 : Valuation τ sig (Elt F) := after stackOpsA (st16 V)
/-- The buffers after `stackOpsB`. -/
def st18 : Valuation τ sig (Elt F) := after stackOpsB (st17 V)
/-- The buffers after `stackOpsC`. -/
def st19 : Valuation τ sig (Elt F) := after stackOpsC (st18 V)
/-- The buffers after `lossOps`. -/
def st20 : Valuation τ sig (Elt F) := after lossOps (st19 V)
/-- The buffers after `outOps`. -/
def st21 : Valuation τ sig (Elt F) := after outOps (st20 V)

theorem after_ops : after ops V = st21 V := by
  simp only [ops, ops₀, ops₁, after_app]
  rfl

theorem lat_at1 : st1 V (Proc.devRef .tc main_v6) = latV V := head_v6 _

theorem lev0_at1 : st1 V (Proc.devRef .tc main_arg5) = st0 V (Proc.devRef .tc main_arg5) :=
    (headOps_keep _ main_arg5 (by decide)).trans <| rfl

theorem lev0_at3 : st3 V (Proc.devRef .tc main_arg5) = st0 V (Proc.devRef .tc main_arg5) :=
    (indexOps0_keep _ main_arg5 (by decide)).trans <|
    (distOps0_keep _ main_arg5 (by decide)).trans <|
    (headOps_keep _ main_arg5 (by decide)).trans <| rfl

theorem index0_at : st3 V (Proc.devRef .tc main_v15) = indexA8 (distA0 (latV V) (V (Proc.devRef .tc main_arg5))) := by
  refine (index0_read _).trans (congrArg _ ((dist0_read _).trans ?_))
  exact congrArg₂ distA0 (lat_at1 V) (lev0_at1 V)

theorem level0_at : st4 V (Proc.devRef .tc main_v16) = levelA8 (V (Proc.devRef .tc main_arg5)) (indexA8 (distA0 (latV V) (V (Proc.devRef .tc main_arg5)))) :=
  (level0_read _).trans (congrArg₂ levelA8 (lev0_at3 V) (index0_at V))

theorem lat_at4 : st4 V (Proc.devRef .tc main_v6) = st1 V (Proc.devRef .tc main_v6) :=
    (levelOps0_keep _ main_v6 (by decide)).trans <|
    (indexOps0_keep _ main_v6 (by decide)).trans <|
    (distOps0_keep _ main_v6 (by decide)).trans <| rfl

theorem lev1_at4 : st4 V (Proc.devRef .tc main_arg6) = st0 V (Proc.devRef .tc main_arg6) :=
    (levelOps0_keep _ main_arg6 (by decide)).trans <|
    (indexOps0_keep _ main_arg6 (by decide)).trans <|
    (distOps0_keep _ main_arg6 (by decide)).trans <|
    (headOps_keep _ main_arg6 (by decide)).trans <| rfl

theorem lev1_at6 : st6 V (Proc.devRef .tc main_arg6) = st0 V (Proc.devRef .tc main_arg6) :=
    (indexOps1_keep _ main_arg6 (by decide)).trans <|
    (distOps1_keep _ main_arg6 (by decide)).trans <|
    (levelOps0_keep _ main_arg6 (by decide)).trans <|
    (indexOps0_keep _ main_arg6 (by decide)).trans <|
    (distOps0_keep _ main_arg6 (by decide)).trans <|
    (headOps_keep _ main_arg6 (by decide)).trans <| rfl

theorem index1_at : st6 V (Proc.devRef .tc main_v25) = indexA8 (distA1 (latV V) (V (Proc.devRef .tc main_arg6))) := by
  refine (index1_read _).trans (congrArg _ ((dist1_read _).trans ?_))
  exact congrArg₂ distA1 ((lat_at4 V).trans (lat_at1 V)) (lev1_at4 V)

theorem level1_at : st7 V (Proc.devRef .tc main_v26) = levelA8 (V (Proc.devRef .tc main_arg6)) (indexA8 (distA1 (latV V) (V (Proc.devRef .tc main_arg6)))) :=
  (level1_read _).trans (congrArg₂ levelA8 (lev1_at6 V) (index1_at V))

theorem lat_at7 : st7 V (Proc.devRef .tc main_v6) = st1 V (Proc.devRef .tc main_v6) :=
    (levelOps1_keep _ main_v6 (by decide)).trans <|
    (indexOps1_keep _ main_v6 (by decide)).trans <|
    (distOps1_keep _ main_v6 (by decide)).trans <|
    (levelOps0_keep _ main_v6 (by decide)).trans <|
    (indexOps0_keep _ main_v6 (by decide)).trans <|
    (distOps0_keep _ main_v6 (by decide)).trans <| rfl

theorem lev2_at7 : st7 V (Proc.devRef .tc main_arg7) = st0 V (Proc.devRef .tc main_arg7) :=
    (levelOps1_keep _ main_arg7 (by decide)).trans <|
    (indexOps1_keep _ main_arg7 (by decide)).trans <|
    (distOps1_keep _ main_arg7 (by decide)).trans <|
    (levelOps0_keep _ main_arg7 (by decide)).trans <|
    (indexOps0_keep _ main_arg7 (by decide)).trans <|
    (distOps0_keep _ main_arg7 (by decide)).trans <|
    (headOps_keep _ main_arg7 (by decide)).trans <| rfl

theorem lev2_at9 : st9 V (Proc.devRef .tc main_arg7) = st0 V (Proc.devRef .tc main_arg7) :=
    (indexOps2_keep _ main_arg7 (by decide)).trans <|
    (distOps2_keep _ main_arg7 (by decide)).trans <|
    (levelOps1_keep _ main_arg7 (by decide)).trans <|
    (indexOps1_keep _ main_arg7 (by decide)).trans <|
    (distOps1_keep _ main_arg7 (by decide)).trans <|
    (levelOps0_keep _ main_arg7 (by decide)).trans <|
    (indexOps0_keep _ main_arg7 (by decide)).trans <|
    (distOps0_keep _ main_arg7 (by decide)).trans <|
    (headOps_keep _ main_arg7 (by decide)).trans <| rfl

theorem index2_at : st9 V (Proc.devRef .tc main_v35) = indexA8 (distA2 (latV V) (V (Proc.devRef .tc main_arg7))) := by
  refine (index2_read _).trans (congrArg _ ((dist2_read _).trans ?_))
  exact congrArg₂ distA2 ((lat_at7 V).trans (lat_at1 V)) (lev2_at7 V)

theorem level2_at : st10 V (Proc.devRef .tc main_v36) = levelA8 (V (Proc.devRef .tc main_arg7)) (indexA8 (distA2 (latV V) (V (Proc.devRef .tc main_arg7)))) :=
  (level2_read _).trans (congrArg₂ levelA8 (lev2_at9 V) (index2_at V))

theorem lat_at10 : st10 V (Proc.devRef .tc main_v6) = st1 V (Proc.devRef .tc main_v6) :=
    (levelOps2_keep _ main_v6 (by decide)).trans <|
    (indexOps2_keep _ main_v6 (by decide)).trans <|
    (distOps2_keep _ main_v6 (by decide)).trans <|
    (levelOps1_keep _ main_v6 (by decide)).trans <|
    (indexOps1_keep _ main_v6 (by decide)).trans <|
    (distOps1_keep _ main_v6 (by decide)).trans <|
    (levelOps0_keep _ main_v6 (by decide)).trans <|
    (indexOps0_keep _ main_v6 (by decide)).trans <|
    (distOps0_keep _ main_v6 (by decide)).trans <| rfl

theorem lev3_at10 : st10 V (Proc.devRef .tc main_arg8) = st0 V (Proc.devRef .tc main_arg8) :=
    (levelOps2_keep _ main_arg8 (by decide)).trans <|
    (indexOps2_keep _ main_arg8 (by decide)).trans <|
    (distOps2_keep _ main_arg8 (by decide)).trans <|
    (levelOps1_keep _ main_arg8 (by decide)).trans <|
    (indexOps1_keep _ main_arg8 (by decide)).trans <|
    (distOps1_keep _ main_arg8 (by decide)).trans <|
    (levelOps0_keep _ main_arg8 (by decide)).trans <|
    (indexOps0_keep _ main_arg8 (by decide)).trans <|
    (distOps0_keep _ main_arg8 (by decide)).trans <|
    (headOps_keep _ main_arg8 (by decide)).trans <| rfl

theorem lev3_at12 : st12 V (Proc.devRef .tc main_arg8) = st0 V (Proc.devRef .tc main_arg8) :=
    (indexOps3_keep _ main_arg8 (by decide)).trans <|
    (distOps3_keep _ main_arg8 (by decide)).trans <|
    (levelOps2_keep _ main_arg8 (by decide)).trans <|
    (indexOps2_keep _ main_arg8 (by decide)).trans <|
    (distOps2_keep _ main_arg8 (by decide)).trans <|
    (levelOps1_keep _ main_arg8 (by decide)).trans <|
    (indexOps1_keep _ main_arg8 (by decide)).trans <|
    (distOps1_keep _ main_arg8 (by decide)).trans <|
    (levelOps0_keep _ main_arg8 (by decide)).trans <|
    (indexOps0_keep _ main_arg8 (by decide)).trans <|
    (distOps0_keep _ main_arg8 (by decide)).trans <|
    (headOps_keep _ main_arg8 (by decide)).trans <| rfl

theorem index3_at : st12 V (Proc.devRef .tc main_v45) = indexA6 (distA3 (latV V) (V (Proc.devRef .tc main_arg8))) := by
  refine (index3_read _).trans (congrArg _ ((dist3_read _).trans ?_))
  exact congrArg₂ distA3 ((lat_at10 V).trans (lat_at1 V)) (lev3_at10 V)

theorem level3_at : st13 V (Proc.devRef .tc main_v46) = levelA6 (V (Proc.devRef .tc main_arg8)) (indexA6 (distA3 (latV V) (V (Proc.devRef .tc main_arg8)))) :=
  (level3_read _).trans (congrArg₂ levelA6 (lev3_at12 V) (index3_at V))

theorem lat_at13 : st13 V (Proc.devRef .tc main_v6) = st1 V (Proc.devRef .tc main_v6) :=
    (levelOps3_keep _ main_v6 (by decide)).trans <|
    (indexOps3_keep _ main_v6 (by decide)).trans <|
    (distOps3_keep _ main_v6 (by decide)).trans <|
    (levelOps2_keep _ main_v6 (by decide)).trans <|
    (indexOps2_keep _ main_v6 (by decide)).trans <|
    (distOps2_keep _ main_v6 (by decide)).trans <|
    (levelOps1_keep _ main_v6 (by decide)).trans <|
    (indexOps1_keep _ main_v6 (by decide)).trans <|
    (distOps1_keep _ main_v6 (by decide)).trans <|
    (levelOps0_keep _ main_v6 (by decide)).trans <|
    (indexOps0_keep _ main_v6 (by decide)).trans <|
    (distOps0_keep _ main_v6 (by decide)).trans <| rfl

theorem lev4_at13 : st13 V (Proc.devRef .tc main_arg9) = st0 V (Proc.devRef .tc main_arg9) :=
    (levelOps3_keep _ main_arg9 (by decide)).trans <|
    (indexOps3_keep _ main_arg9 (by decide)).trans <|
    (distOps3_keep _ main_arg9 (by decide)).trans <|
    (levelOps2_keep _ main_arg9 (by decide)).trans <|
    (indexOps2_keep _ main_arg9 (by decide)).trans <|
    (distOps2_keep _ main_arg9 (by decide)).trans <|
    (levelOps1_keep _ main_arg9 (by decide)).trans <|
    (indexOps1_keep _ main_arg9 (by decide)).trans <|
    (distOps1_keep _ main_arg9 (by decide)).trans <|
    (levelOps0_keep _ main_arg9 (by decide)).trans <|
    (indexOps0_keep _ main_arg9 (by decide)).trans <|
    (distOps0_keep _ main_arg9 (by decide)).trans <|
    (headOps_keep _ main_arg9 (by decide)).trans <| rfl

theorem lev4_at15 : st15 V (Proc.devRef .tc main_arg9) = st0 V (Proc.devRef .tc main_arg9) :=
    (indexOps4_keep _ main_arg9 (by decide)).trans <|
    (distOps4_keep _ main_arg9 (by decide)).trans <|
    (levelOps3_keep _ main_arg9 (by decide)).trans <|
    (indexOps3_keep _ main_arg9 (by decide)).trans <|
    (distOps3_keep _ main_arg9 (by decide)).trans <|
    (levelOps2_keep _ main_arg9 (by decide)).trans <|
    (indexOps2_keep _ main_arg9 (by decide)).trans <|
    (distOps2_keep _ main_arg9 (by decide)).trans <|
    (levelOps1_keep _ main_arg9 (by decide)).trans <|
    (indexOps1_keep _ main_arg9 (by decide)).trans <|
    (distOps1_keep _ main_arg9 (by decide)).trans <|
    (levelOps0_keep _ main_arg9 (by decide)).trans <|
    (indexOps0_keep _ main_arg9 (by decide)).trans <|
    (distOps0_keep _ main_arg9 (by decide)).trans <|
    (headOps_keep _ main_arg9 (by decide)).trans <| rfl

theorem index4_at : st15 V (Proc.devRef .tc main_v55) = indexA5 (distA4 (latV V) (V (Proc.devRef .tc main_arg9))) := by
  refine (index4_read _).trans (congrArg _ ((dist4_read _).trans ?_))
  exact congrArg₂ distA4 ((lat_at13 V).trans (lat_at1 V)) (lev4_at13 V)

theorem level4_at : st16 V (Proc.devRef .tc main_v56) = levelA5 (V (Proc.devRef .tc main_arg9)) (indexA5 (distA4 (latV V) (V (Proc.devRef .tc main_arg9)))) :=
  (level4_read _).trans (congrArg₂ levelA5 (lev4_at15 V) (index4_at V))

theorem index0_keep : st16 V (Proc.devRef .tc main_v15) = st3 V (Proc.devRef .tc main_v15) :=
    (levelOps4_keep _ main_v15 (by decide)).trans <|
    (indexOps4_keep _ main_v15 (by decide)).trans <|
    (distOps4_keep _ main_v15 (by decide)).trans <|
    (levelOps3_keep _ main_v15 (by decide)).trans <|
    (indexOps3_keep _ main_v15 (by decide)).trans <|
    (distOps3_keep _ main_v15 (by decide)).trans <|
    (levelOps2_keep _ main_v15 (by decide)).trans <|
    (indexOps2_keep _ main_v15 (by decide)).trans <|
    (distOps2_keep _ main_v15 (by decide)).trans <|
    (levelOps1_keep _ main_v15 (by decide)).trans <|
    (indexOps1_keep _ main_v15 (by decide)).trans <|
    (distOps1_keep _ main_v15 (by decide)).trans <|
    (levelOps0_keep _ main_v15 (by decide)).trans <| rfl

theorem level0_keep : st18 V (Proc.devRef .tc main_v16) = st4 V (Proc.devRef .tc main_v16) :=
    (stackOpsB_keep _ main_v16 (by decide)).trans <|
    (stackOpsA_keep _ main_v16 (by decide)).trans <|
    (levelOps4_keep _ main_v16 (by decide)).trans <|
    (indexOps4_keep _ main_v16 (by decide)).trans <|
    (distOps4_keep _ main_v16 (by decide)).trans <|
    (levelOps3_keep _ main_v16 (by decide)).trans <|
    (indexOps3_keep _ main_v16 (by decide)).trans <|
    (distOps3_keep _ main_v16 (by decide)).trans <|
    (levelOps2_keep _ main_v16 (by decide)).trans <|
    (indexOps2_keep _ main_v16 (by decide)).trans <|
    (distOps2_keep _ main_v16 (by decide)).trans <|
    (levelOps1_keep _ main_v16 (by decide)).trans <|
    (indexOps1_keep _ main_v16 (by decide)).trans <|
    (distOps1_keep _ main_v16 (by decide)).trans <| rfl

theorem index1_keep : st16 V (Proc.devRef .tc main_v25) = st6 V (Proc.devRef .tc main_v25) :=
    (levelOps4_keep _ main_v25 (by decide)).trans <|
    (indexOps4_keep _ main_v25 (by decide)).trans <|
    (distOps4_keep _ main_v25 (by decide)).trans <|
    (levelOps3_keep _ main_v25 (by decide)).trans <|
    (indexOps3_keep _ main_v25 (by decide)).trans <|
    (distOps3_keep _ main_v25 (by decide)).trans <|
    (levelOps2_keep _ main_v25 (by decide)).trans <|
    (indexOps2_keep _ main_v25 (by decide)).trans <|
    (distOps2_keep _ main_v25 (by decide)).trans <|
    (levelOps1_keep _ main_v25 (by decide)).trans <| rfl

theorem level1_keep : st18 V (Proc.devRef .tc main_v26) = st7 V (Proc.devRef .tc main_v26) :=
    (stackOpsB_keep _ main_v26 (by decide)).trans <|
    (stackOpsA_keep _ main_v26 (by decide)).trans <|
    (levelOps4_keep _ main_v26 (by decide)).trans <|
    (indexOps4_keep _ main_v26 (by decide)).trans <|
    (distOps4_keep _ main_v26 (by decide)).trans <|
    (levelOps3_keep _ main_v26 (by decide)).trans <|
    (indexOps3_keep _ main_v26 (by decide)).trans <|
    (distOps3_keep _ main_v26 (by decide)).trans <|
    (levelOps2_keep _ main_v26 (by decide)).trans <|
    (indexOps2_keep _ main_v26 (by decide)).trans <|
    (distOps2_keep _ main_v26 (by decide)).trans <| rfl

theorem index2_keep : st16 V (Proc.devRef .tc main_v35) = st9 V (Proc.devRef .tc main_v35) :=
    (levelOps4_keep _ main_v35 (by decide)).trans <|
    (indexOps4_keep _ main_v35 (by decide)).trans <|
    (distOps4_keep _ main_v35 (by decide)).trans <|
    (levelOps3_keep _ main_v35 (by decide)).trans <|
    (indexOps3_keep _ main_v35 (by decide)).trans <|
    (distOps3_keep _ main_v35 (by decide)).trans <|
    (levelOps2_keep _ main_v35 (by decide)).trans <| rfl

theorem level2_keep : st18 V (Proc.devRef .tc main_v36) = st10 V (Proc.devRef .tc main_v36) :=
    (stackOpsB_keep _ main_v36 (by decide)).trans <|
    (stackOpsA_keep _ main_v36 (by decide)).trans <|
    (levelOps4_keep _ main_v36 (by decide)).trans <|
    (indexOps4_keep _ main_v36 (by decide)).trans <|
    (distOps4_keep _ main_v36 (by decide)).trans <|
    (levelOps3_keep _ main_v36 (by decide)).trans <|
    (indexOps3_keep _ main_v36 (by decide)).trans <|
    (distOps3_keep _ main_v36 (by decide)).trans <| rfl

theorem index3_keep : st16 V (Proc.devRef .tc main_v45) = st12 V (Proc.devRef .tc main_v45) :=
    (levelOps4_keep _ main_v45 (by decide)).trans <|
    (indexOps4_keep _ main_v45 (by decide)).trans <|
    (distOps4_keep _ main_v45 (by decide)).trans <|
    (levelOps3_keep _ main_v45 (by decide)).trans <| rfl

theorem level3_keep : st18 V (Proc.devRef .tc main_v46) = st13 V (Proc.devRef .tc main_v46) :=
    (stackOpsB_keep _ main_v46 (by decide)).trans <|
    (stackOpsA_keep _ main_v46 (by decide)).trans <|
    (levelOps4_keep _ main_v46 (by decide)).trans <|
    (indexOps4_keep _ main_v46 (by decide)).trans <|
    (distOps4_keep _ main_v46 (by decide)).trans <| rfl

theorem index4_keep : st16 V (Proc.devRef .tc main_v55) = st15 V (Proc.devRef .tc main_v55) :=
    (levelOps4_keep _ main_v55 (by decide)).trans <| rfl

theorem level4_keep : st18 V (Proc.devRef .tc main_v56) = st16 V (Proc.devRef .tc main_v56) :=
    (stackOpsB_keep _ main_v56 (by decide)).trans <|
    (stackOpsA_keep _ main_v56 (by decide)).trans <| rfl

theorem lat_late : st19 V (Proc.devRef .tc main_v6) = st1 V (Proc.devRef .tc main_v6) :=
    (stackOpsC_keep _ main_v6 (by decide)).trans <|
    (stackOpsB_keep _ main_v6 (by decide)).trans <|
    (stackOpsA_keep _ main_v6 (by decide)).trans <|
    (levelOps4_keep _ main_v6 (by decide)).trans <|
    (indexOps4_keep _ main_v6 (by decide)).trans <|
    (distOps4_keep _ main_v6 (by decide)).trans <|
    (levelOps3_keep _ main_v6 (by decide)).trans <|
    (indexOps3_keep _ main_v6 (by decide)).trans <|
    (distOps3_keep _ main_v6 (by decide)).trans <|
    (levelOps2_keep _ main_v6 (by decide)).trans <|
    (indexOps2_keep _ main_v6 (by decide)).trans <|
    (distOps2_keep _ main_v6 (by decide)).trans <|
    (levelOps1_keep _ main_v6 (by decide)).trans <|
    (indexOps1_keep _ main_v6 (by decide)).trans <|
    (distOps1_keep _ main_v6 (by decide)).trans <|
    (levelOps0_keep _ main_v6 (by decide)).trans <|
    (indexOps0_keep _ main_v6 (by decide)).trans <|
    (distOps0_keep _ main_v6 (by decide)).trans <| rfl

theorem codes_keep : st20 V (Proc.devRef .tc main_v62) = st18 V (Proc.devRef .tc main_v62) :=
    (lossOps_keep _ main_v62 (by decide)).trans <|
    (stackOpsC_keep _ main_v62 (by decide)).trans <| rfl

theorem w_keep : st20 V (Proc.devRef .tc main_arg3) = st0 V (Proc.devRef .tc main_arg3) :=
    (lossOps_keep _ main_arg3 (by decide)).trans <|
    (stackOpsC_keep _ main_arg3 (by decide)).trans <|
    (stackOpsB_keep _ main_arg3 (by decide)).trans <|
    (stackOpsA_keep _ main_arg3 (by decide)).trans <|
    (levelOps4_keep _ main_arg3 (by decide)).trans <|
    (indexOps4_keep _ main_arg3 (by decide)).trans <|
    (distOps4_keep _ main_arg3 (by decide)).trans <|
    (levelOps3_keep _ main_arg3 (by decide)).trans <|
    (indexOps3_keep _ main_arg3 (by decide)).trans <|
    (distOps3_keep _ main_arg3 (by decide)).trans <|
    (levelOps2_keep _ main_arg3 (by decide)).trans <|
    (indexOps2_keep _ main_arg3 (by decide)).trans <|
    (distOps2_keep _ main_arg3 (by decide)).trans <|
    (levelOps1_keep _ main_arg3 (by decide)).trans <|
    (indexOps1_keep _ main_arg3 (by decide)).trans <|
    (distOps1_keep _ main_arg3 (by decide)).trans <|
    (levelOps0_keep _ main_arg3 (by decide)).trans <|
    (indexOps0_keep _ main_arg3 (by decide)).trans <|
    (distOps0_keep _ main_arg3 (by decide)).trans <|
    (headOps_keep _ main_arg3 (by decide)).trans <| rfl

theorem b_keep : st20 V (Proc.devRef .tc main_arg4) = st0 V (Proc.devRef .tc main_arg4) :=
    (lossOps_keep _ main_arg4 (by decide)).trans <|
    (stackOpsC_keep _ main_arg4 (by decide)).trans <|
    (stackOpsB_keep _ main_arg4 (by decide)).trans <|
    (stackOpsA_keep _ main_arg4 (by decide)).trans <|
    (levelOps4_keep _ main_arg4 (by decide)).trans <|
    (indexOps4_keep _ main_arg4 (by decide)).trans <|
    (distOps4_keep _ main_arg4 (by decide)).trans <|
    (levelOps3_keep _ main_arg4 (by decide)).trans <|
    (indexOps3_keep _ main_arg4 (by decide)).trans <|
    (distOps3_keep _ main_arg4 (by decide)).trans <|
    (levelOps2_keep _ main_arg4 (by decide)).trans <|
    (indexOps2_keep _ main_arg4 (by decide)).trans <|
    (distOps2_keep _ main_arg4 (by decide)).trans <|
    (levelOps1_keep _ main_arg4 (by decide)).trans <|
    (indexOps1_keep _ main_arg4 (by decide)).trans <|
    (distOps1_keep _ main_arg4 (by decide)).trans <|
    (levelOps0_keep _ main_arg4 (by decide)).trans <|
    (indexOps0_keep _ main_arg4 (by decide)).trans <|
    (distOps0_keep _ main_arg4 (by decide)).trans <|
    (headOps_keep _ main_arg4 (by decide)).trans <| rfl

theorem loss_keep : st21 V (Proc.devRef .tc main_v81) = st20 V (Proc.devRef .tc main_v81) :=
    (outOps_keep _ main_v81 (by decide)).trans <| rfl

theorem codes_at : st18 V (Proc.devRef .tc main_v62) = indicesA (latV V) (V (Proc.devRef .tc main_arg5)) (V (Proc.devRef .tc main_arg6)) (V (Proc.devRef .tc main_arg7)) (V (Proc.devRef .tc main_arg8)) (V (Proc.devRef .tc main_arg9)) := by
  refine (stackB_read _).trans ?_
  show stackA (st16 V (Proc.devRef .tc main_v15)) (st16 V (Proc.devRef .tc main_v25)) (st16 V (Proc.devRef .tc main_v35)) (st16 V (Proc.devRef .tc main_v45)) (st16 V (Proc.devRef .tc main_v55)) = _
  rw [indicesA, index0_keep, index0_at, index1_keep, index1_at, index2_keep, index2_at, index3_keep, index3_at, index4_keep, index4_at]

theorem levels_at : st19 V (Proc.devRef .tc main_v68) = levelsA (latV V) (V (Proc.devRef .tc main_arg5)) (V (Proc.devRef .tc main_arg6)) (V (Proc.devRef .tc main_arg7)) (V (Proc.devRef .tc main_arg8)) (V (Proc.devRef .tc main_arg9)) := by
  refine (stackC_read _).trans ?_
  show stackA (st18 V (Proc.devRef .tc main_v16)) (st18 V (Proc.devRef .tc main_v26)) (st18 V (Proc.devRef .tc main_v36)) (st18 V (Proc.devRef .tc main_v46)) (st18 V (Proc.devRef .tc main_v56)) = _
  rw [levelsA, level0_keep, level0_at, level1_keep, level1_at, level2_keep, level2_at, level3_keep, level3_at, level4_keep, level4_at]

theorem lat_end : st19 V (Proc.devRef .tc main_v6) = latV V := (lat_late V).trans (lat_at1 V)

theorem ste_at : st20 V (Proc.devRef .tc main_v70) = steV V :=
  (ste_read _).trans (congrArg₂ steA (lat_end V) (levels_at V))

theorem loss_at : st20 V (Proc.devRef .tc main_v81) = lossA (latV V) (steV V) :=
  (loss_read _).trans (congrArg₂ lossA (lat_end V) (congrArg₂ steA (lat_end V) (levels_at V)))

theorem out_at : st21 V (Proc.devRef .tc main_v88) = outA (steV V) (V (Proc.devRef .tc main_arg3)) (V (Proc.devRef .tc main_arg4)) := by
  refine (out_read _).trans ?_
  show outA (st20 V (Proc.devRef .tc main_v70)) (st20 V (Proc.devRef .tc main_arg3)) (st20 V (Proc.devRef .tc main_arg4)) = _
  rw [ste_at, w_keep, b_keep]
  rfl

theorem out_codes_at : st21 V (Proc.devRef .tc main_v89) = codesA (indicesA (latV V) (V (Proc.devRef .tc main_arg5)) (V (Proc.devRef .tc main_arg6)) (V (Proc.devRef .tc main_arg7)) (V (Proc.devRef .tc main_arg8)) (V (Proc.devRef .tc main_arg9))) :=
  (codes_read _).trans (congrArg codesA ((codes_keep V).trans (codes_at V)))

theorem out_loss_at : st21 V (Proc.devRef .tc main_v81) = lossA (latV V) (steV V) := (loss_keep V).trans (loss_at V)

theorem arg0_end : st21 V (Proc.devRef .tc main_arg0) = st0 V (Proc.devRef .tc main_arg0) :=
    (outOps_keep _ main_arg0 (by decide)).trans <|
    (lossOps_keep _ main_arg0 (by decide)).trans <|
    (stackOpsC_keep _ main_arg0 (by decide)).trans <|
    (stackOpsB_keep _ main_arg0 (by decide)).trans <|
    (stackOpsA_keep _ main_arg0 (by decide)).trans <|
    (levelOps4_keep _ main_arg0 (by decide)).trans <|
    (indexOps4_keep _ main_arg0 (by decide)).trans <|
    (distOps4_keep _ main_arg0 (by decide)).trans <|
    (levelOps3_keep _ main_arg0 (by decide)).trans <|
    (indexOps3_keep _ main_arg0 (by decide)).trans <|
    (distOps3_keep _ main_arg0 (by decide)).trans <|
    (levelOps2_keep _ main_arg0 (by decide)).trans <|
    (indexOps2_keep _ main_arg0 (by decide)).trans <|
    (distOps2_keep _ main_arg0 (by decide)).trans <|
    (levelOps1_keep _ main_arg0 (by decide)).trans <|
    (indexOps1_keep _ main_arg0 (by decide)).trans <|
    (distOps1_keep _ main_arg0 (by decide)).trans <|
    (levelOps0_keep _ main_arg0 (by decide)).trans <|
    (indexOps0_keep _ main_arg0 (by decide)).trans <|
    (distOps0_keep _ main_arg0 (by decide)).trans <|
    (headOps_keep _ main_arg0 (by decide)).trans <| rfl

theorem arg1_end : st21 V (Proc.devRef .tc main_arg1) = st0 V (Proc.devRef .tc main_arg1) :=
    (outOps_keep _ main_arg1 (by decide)).trans <|
    (lossOps_keep _ main_arg1 (by decide)).trans <|
    (stackOpsC_keep _ main_arg1 (by decide)).trans <|
    (stackOpsB_keep _ main_arg1 (by decide)).trans <|
    (stackOpsA_keep _ main_arg1 (by decide)).trans <|
    (levelOps4_keep _ main_arg1 (by decide)).trans <|
    (indexOps4_keep _ main_arg1 (by decide)).trans <|
    (distOps4_keep _ main_arg1 (by decide)).trans <|
    (levelOps3_keep _ main_arg1 (by decide)).trans <|
    (indexOps3_keep _ main_arg1 (by decide)).trans <|
    (distOps3_keep _ main_arg1 (by decide)).trans <|
    (levelOps2_keep _ main_arg1 (by decide)).trans <|
    (indexOps2_keep _ main_arg1 (by decide)).trans <|
    (distOps2_keep _ main_arg1 (by decide)).trans <|
    (levelOps1_keep _ main_arg1 (by decide)).trans <|
    (indexOps1_keep _ main_arg1 (by decide)).trans <|
    (distOps1_keep _ main_arg1 (by decide)).trans <|
    (levelOps0_keep _ main_arg1 (by decide)).trans <|
    (indexOps0_keep _ main_arg1 (by decide)).trans <|
    (distOps0_keep _ main_arg1 (by decide)).trans <|
    (headOps_keep _ main_arg1 (by decide)).trans <| rfl

theorem arg2_end : st21 V (Proc.devRef .tc main_arg2) = st0 V (Proc.devRef .tc main_arg2) :=
    (outOps_keep _ main_arg2 (by decide)).trans <|
    (lossOps_keep _ main_arg2 (by decide)).trans <|
    (stackOpsC_keep _ main_arg2 (by decide)).trans <|
    (stackOpsB_keep _ main_arg2 (by decide)).trans <|
    (stackOpsA_keep _ main_arg2 (by decide)).trans <|
    (levelOps4_keep _ main_arg2 (by decide)).trans <|
    (indexOps4_keep _ main_arg2 (by decide)).trans <|
    (distOps4_keep _ main_arg2 (by decide)).trans <|
    (levelOps3_keep _ main_arg2 (by decide)).trans <|
    (indexOps3_keep _ main_arg2 (by decide)).trans <|
    (distOps3_keep _ main_arg2 (by decide)).trans <|
    (levelOps2_keep _ main_arg2 (by decide)).trans <|
    (indexOps2_keep _ main_arg2 (by decide)).trans <|
    (distOps2_keep _ main_arg2 (by decide)).trans <|
    (levelOps1_keep _ main_arg2 (by decide)).trans <|
    (indexOps1_keep _ main_arg2 (by decide)).trans <|
    (distOps1_keep _ main_arg2 (by decide)).trans <|
    (levelOps0_keep _ main_arg2 (by decide)).trans <|
    (indexOps0_keep _ main_arg2 (by decide)).trans <|
    (distOps0_keep _ main_arg2 (by decide)).trans <|
    (headOps_keep _ main_arg2 (by decide)).trans <| rfl

theorem arg3_end : st21 V (Proc.devRef .tc main_arg3) = st0 V (Proc.devRef .tc main_arg3) :=
    (outOps_keep _ main_arg3 (by decide)).trans <|
    (lossOps_keep _ main_arg3 (by decide)).trans <|
    (stackOpsC_keep _ main_arg3 (by decide)).trans <|
    (stackOpsB_keep _ main_arg3 (by decide)).trans <|
    (stackOpsA_keep _ main_arg3 (by decide)).trans <|
    (levelOps4_keep _ main_arg3 (by decide)).trans <|
    (indexOps4_keep _ main_arg3 (by decide)).trans <|
    (distOps4_keep _ main_arg3 (by decide)).trans <|
    (levelOps3_keep _ main_arg3 (by decide)).trans <|
    (indexOps3_keep _ main_arg3 (by decide)).trans <|
    (distOps3_keep _ main_arg3 (by decide)).trans <|
    (levelOps2_keep _ main_arg3 (by decide)).trans <|
    (indexOps2_keep _ main_arg3 (by decide)).trans <|
    (distOps2_keep _ main_arg3 (by decide)).trans <|
    (levelOps1_keep _ main_arg3 (by decide)).trans <|
    (indexOps1_keep _ main_arg3 (by decide)).trans <|
    (distOps1_keep _ main_arg3 (by decide)).trans <|
    (levelOps0_keep _ main_arg3 (by decide)).trans <|
    (indexOps0_keep _ main_arg3 (by decide)).trans <|
    (distOps0_keep _ main_arg3 (by decide)).trans <|
    (headOps_keep _ main_arg3 (by decide)).trans <| rfl

theorem arg4_end : st21 V (Proc.devRef .tc main_arg4) = st0 V (Proc.devRef .tc main_arg4) :=
    (outOps_keep _ main_arg4 (by decide)).trans <|
    (lossOps_keep _ main_arg4 (by decide)).trans <|
    (stackOpsC_keep _ main_arg4 (by decide)).trans <|
    (stackOpsB_keep _ main_arg4 (by decide)).trans <|
    (stackOpsA_keep _ main_arg4 (by decide)).trans <|
    (levelOps4_keep _ main_arg4 (by decide)).trans <|
    (indexOps4_keep _ main_arg4 (by decide)).trans <|
    (distOps4_keep _ main_arg4 (by decide)).trans <|
    (levelOps3_keep _ main_arg4 (by decide)).trans <|
    (indexOps3_keep _ main_arg4 (by decide)).trans <|
    (distOps3_keep _ main_arg4 (by decide)).trans <|
    (levelOps2_keep _ main_arg4 (by decide)).trans <|
    (indexOps2_keep _ main_arg4 (by decide)).trans <|
    (distOps2_keep _ main_arg4 (by decide)).trans <|
    (levelOps1_keep _ main_arg4 (by decide)).trans <|
    (indexOps1_keep _ main_arg4 (by decide)).trans <|
    (distOps1_keep _ main_arg4 (by decide)).trans <|
    (levelOps0_keep _ main_arg4 (by decide)).trans <|
    (indexOps0_keep _ main_arg4 (by decide)).trans <|
    (distOps0_keep _ main_arg4 (by decide)).trans <|
    (headOps_keep _ main_arg4 (by decide)).trans <| rfl

theorem arg5_end : st21 V (Proc.devRef .tc main_arg5) = st0 V (Proc.devRef .tc main_arg5) :=
    (outOps_keep _ main_arg5 (by decide)).trans <|
    (lossOps_keep _ main_arg5 (by decide)).trans <|
    (stackOpsC_keep _ main_arg5 (by decide)).trans <|
    (stackOpsB_keep _ main_arg5 (by decide)).trans <|
    (stackOpsA_keep _ main_arg5 (by decide)).trans <|
    (levelOps4_keep _ main_arg5 (by decide)).trans <|
    (indexOps4_keep _ main_arg5 (by decide)).trans <|
    (distOps4_keep _ main_arg5 (by decide)).trans <|
    (levelOps3_keep _ main_arg5 (by decide)).trans <|
    (indexOps3_keep _ main_arg5 (by decide)).trans <|
    (distOps3_keep _ main_arg5 (by decide)).trans <|
    (levelOps2_keep _ main_arg5 (by decide)).trans <|
    (indexOps2_keep _ main_arg5 (by decide)).trans <|
    (distOps2_keep _ main_arg5 (by decide)).trans <|
    (levelOps1_keep _ main_arg5 (by decide)).trans <|
    (indexOps1_keep _ main_arg5 (by decide)).trans <|
    (distOps1_keep _ main_arg5 (by decide)).trans <|
    (levelOps0_keep _ main_arg5 (by decide)).trans <|
    (indexOps0_keep _ main_arg5 (by decide)).trans <|
    (distOps0_keep _ main_arg5 (by decide)).trans <|
    (headOps_keep _ main_arg5 (by decide)).trans <| rfl

theorem arg6_end : st21 V (Proc.devRef .tc main_arg6) = st0 V (Proc.devRef .tc main_arg6) :=
    (outOps_keep _ main_arg6 (by decide)).trans <|
    (lossOps_keep _ main_arg6 (by decide)).trans <|
    (stackOpsC_keep _ main_arg6 (by decide)).trans <|
    (stackOpsB_keep _ main_arg6 (by decide)).trans <|
    (stackOpsA_keep _ main_arg6 (by decide)).trans <|
    (levelOps4_keep _ main_arg6 (by decide)).trans <|
    (indexOps4_keep _ main_arg6 (by decide)).trans <|
    (distOps4_keep _ main_arg6 (by decide)).trans <|
    (levelOps3_keep _ main_arg6 (by decide)).trans <|
    (indexOps3_keep _ main_arg6 (by decide)).trans <|
    (distOps3_keep _ main_arg6 (by decide)).trans <|
    (levelOps2_keep _ main_arg6 (by decide)).trans <|
    (indexOps2_keep _ main_arg6 (by decide)).trans <|
    (distOps2_keep _ main_arg6 (by decide)).trans <|
    (levelOps1_keep _ main_arg6 (by decide)).trans <|
    (indexOps1_keep _ main_arg6 (by decide)).trans <|
    (distOps1_keep _ main_arg6 (by decide)).trans <|
    (levelOps0_keep _ main_arg6 (by decide)).trans <|
    (indexOps0_keep _ main_arg6 (by decide)).trans <|
    (distOps0_keep _ main_arg6 (by decide)).trans <|
    (headOps_keep _ main_arg6 (by decide)).trans <| rfl

theorem arg7_end : st21 V (Proc.devRef .tc main_arg7) = st0 V (Proc.devRef .tc main_arg7) :=
    (outOps_keep _ main_arg7 (by decide)).trans <|
    (lossOps_keep _ main_arg7 (by decide)).trans <|
    (stackOpsC_keep _ main_arg7 (by decide)).trans <|
    (stackOpsB_keep _ main_arg7 (by decide)).trans <|
    (stackOpsA_keep _ main_arg7 (by decide)).trans <|
    (levelOps4_keep _ main_arg7 (by decide)).trans <|
    (indexOps4_keep _ main_arg7 (by decide)).trans <|
    (distOps4_keep _ main_arg7 (by decide)).trans <|
    (levelOps3_keep _ main_arg7 (by decide)).trans <|
    (indexOps3_keep _ main_arg7 (by decide)).trans <|
    (distOps3_keep _ main_arg7 (by decide)).trans <|
    (levelOps2_keep _ main_arg7 (by decide)).trans <|
    (indexOps2_keep _ main_arg7 (by decide)).trans <|
    (distOps2_keep _ main_arg7 (by decide)).trans <|
    (levelOps1_keep _ main_arg7 (by decide)).trans <|
    (indexOps1_keep _ main_arg7 (by decide)).trans <|
    (distOps1_keep _ main_arg7 (by decide)).trans <|
    (levelOps0_keep _ main_arg7 (by decide)).trans <|
    (indexOps0_keep _ main_arg7 (by decide)).trans <|
    (distOps0_keep _ main_arg7 (by decide)).trans <|
    (headOps_keep _ main_arg7 (by decide)).trans <| rfl

theorem arg8_end : st21 V (Proc.devRef .tc main_arg8) = st0 V (Proc.devRef .tc main_arg8) :=
    (outOps_keep _ main_arg8 (by decide)).trans <|
    (lossOps_keep _ main_arg8 (by decide)).trans <|
    (stackOpsC_keep _ main_arg8 (by decide)).trans <|
    (stackOpsB_keep _ main_arg8 (by decide)).trans <|
    (stackOpsA_keep _ main_arg8 (by decide)).trans <|
    (levelOps4_keep _ main_arg8 (by decide)).trans <|
    (indexOps4_keep _ main_arg8 (by decide)).trans <|
    (distOps4_keep _ main_arg8 (by decide)).trans <|
    (levelOps3_keep _ main_arg8 (by decide)).trans <|
    (indexOps3_keep _ main_arg8 (by decide)).trans <|
    (distOps3_keep _ main_arg8 (by decide)).trans <|
    (levelOps2_keep _ main_arg8 (by decide)).trans <|
    (indexOps2_keep _ main_arg8 (by decide)).trans <|
    (distOps2_keep _ main_arg8 (by decide)).trans <|
    (levelOps1_keep _ main_arg8 (by decide)).trans <|
    (indexOps1_keep _ main_arg8 (by decide)).trans <|
    (distOps1_keep _ main_arg8 (by decide)).trans <|
    (levelOps0_keep _ main_arg8 (by decide)).trans <|
    (indexOps0_keep _ main_arg8 (by decide)).trans <|
    (distOps0_keep _ main_arg8 (by decide)).trans <|
    (headOps_keep _ main_arg8 (by decide)).trans <| rfl

theorem arg9_end : st21 V (Proc.devRef .tc main_arg9) = st0 V (Proc.devRef .tc main_arg9) :=
    (outOps_keep _ main_arg9 (by decide)).trans <|
    (lossOps_keep _ main_arg9 (by decide)).trans <|
    (stackOpsC_keep _ main_arg9 (by decide)).trans <|
    (stackOpsB_keep _ main_arg9 (by decide)).trans <|
    (stackOpsA_keep _ main_arg9 (by decide)).trans <|
    (levelOps4_keep _ main_arg9 (by decide)).trans <|
    (indexOps4_keep _ main_arg9 (by decide)).trans <|
    (distOps4_keep _ main_arg9 (by decide)).trans <|
    (levelOps3_keep _ main_arg9 (by decide)).trans <|
    (indexOps3_keep _ main_arg9 (by decide)).trans <|
    (distOps3_keep _ main_arg9 (by decide)).trans <|
    (levelOps2_keep _ main_arg9 (by decide)).trans <|
    (indexOps2_keep _ main_arg9 (by decide)).trans <|
    (distOps2_keep _ main_arg9 (by decide)).trans <|
    (levelOps1_keep _ main_arg9 (by decide)).trans <|
    (indexOps1_keep _ main_arg9 (by decide)).trans <|
    (distOps1_keep _ main_arg9 (by decide)).trans <|
    (levelOps0_keep _ main_arg9 (by decide)).trans <|
    (indexOps0_keep _ main_arg9 (by decide)).trans <|
    (distOps0_keep _ main_arg9 (by decide)).trans <|
    (headOps_keep _ main_arg9 (by decide)).trans <| rfl

end Values

theorem scopedRefs_eq : (Finset.univ.filter fun b : Ref sig .tc => b.isScoped) = ∅ := by decide
theorem scopedSems_eq : (Finset.univ.filter fun sm : SemLoc sig => sm.isScoped .tc) = ∅ := by decide

/-- The run: the three results at the array functions of the arguments, which end unchanged; every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v88) = outA (steV (launchContents m c)) (m ((c.tc : Thread nD τ).loc main_arg3)) (m ((c.tc : Thread nD τ).loc main_arg4))
      ∧ r.2.mem ((c.tc : Thread nD τ).loc main_v89) = codesA (indicesA (latV (launchContents m c)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v81) = lossA (latV (launchContents m c)) (steV (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨
      (h c main_v88).trans ((congrFun (after_ops _) _).trans (out_at _)),
      (h c main_v89).trans ((congrFun (after_ops _) _).trans (out_codes_at _)),
      (h c main_v81).trans ((congrFun (after_ops _) _).trans (out_loss_at _)),
      (h c main_arg0).trans ((congrFun (after_ops _) _).trans (arg0_end _)),
      (h c main_arg1).trans ((congrFun (after_ops _) _).trans (arg1_end _)),
      (h c main_arg2).trans ((congrFun (after_ops _) _).trans (arg2_end _)),
      (h c main_arg3).trans ((congrFun (after_ops _) _).trans (arg3_end _)),
      (h c main_arg4).trans ((congrFun (after_ops _) _).trans (arg4_end _)),
      (h c main_arg5).trans ((congrFun (after_ops _) _).trans (arg5_end _)),
      (h c main_arg6).trans ((congrFun (after_ops _) _).trans (arg6_end _)),
      (h c main_arg7).trans ((congrFun (after_ops _) _).trans (arg7_end _)),
      (h c main_arg8).trans ((congrFun (after_ops _) _).trans (arg8_end _)),
      (h c main_arg9).trans ((congrFun (after_ops _) _).trans (arg9_end _))⟩,
      sem_eq_zero_of_no_sems (by decide) r.2⟩)
    (run_seq scopedRefs_eq scopedSems_eq defs main (fun _ => ops) main_eq (fun _ => ops_bufs) m ρ (fun _ => ops_fresh))

end Cert.Proof.Ref

end
-- ==== Proof.RefLevels.lean ====
/-
  The reference's stacked indices and levels at an element: the nearest level of the latent there, and its index.
-/
module

public import proofs.«01_k».proof.Proof.RefRun
public import proofs.«01_k».proof.Proof.RefValue

@[expose] public section

set_option maxRecDepth 16384

noncomputable section

namespace Cert.Proof.Ref

open Cert.ReferenceIdeal Cert.ReferenceIdeal.Gen Idealize.ShloMosaic

theorem index0_apply (x : FVec Ideal S32x1024x1x5 .f32) (v : FVec Ideal S8 .f32) (b : Fin 32) (n : Fin 1024) :
    indexA8 (distA0 x v) (ix3 b n 0) = BitVec.ofNat 32 (near (x (ix4 b n 0 0)) (padded v) 7) :=
  indexA8_apply _ b n _ _ fun k => (distA0_apply x v b n k).trans (congrArg (dist _) (padded_of_lt v k).symm)

theorem level0_apply (x : FVec Ideal S32x1024x1x5 .f32) (v : FVec Ideal S8 .f32) (b : Fin 32) (n : Fin 1024) :
    levelA8 v (indexA8 (distA0 x v)) (ix3 b n 0) = padded v (near (x (ix4 b n 0 0)) (padded v) 7) := by
  have hk : near (x (ix4 b n 0 0)) (padded v) 7 < 8 := Nat.lt_succ_of_le (near_le _ _ _)
  exact (levelA8_apply v _ b n _ hk (index0_apply x v b n)).trans (padded_of_lt v ⟨_, hk⟩).symm

theorem index1_apply (x : FVec Ideal S32x1024x1x5 .f32) (v : FVec Ideal S8 .f32) (b : Fin 32) (n : Fin 1024) :
    indexA8 (distA1 x v) (ix3 b n 0) = BitVec.ofNat 32 (near (x (ix4 b n 0 1)) (padded v) 7) :=
  indexA8_apply _ b n _ _ fun k => (distA1_apply x v b n k).trans (congrArg (dist _) (padded_of_lt v k).symm)

theorem level1_apply (x : FVec Ideal S32x1024x1x5 .f32) (v : FVec Ideal S8 .f32) (b : Fin 32) (n : Fin 1024) :
    levelA8 v (indexA8 (distA1 x v)) (ix3 b n 0) = padded v (near (x (ix4 b n 0 1)) (padded v) 7) := by
  have hk : near (x (ix4 b n 0 1)) (padded v) 7 < 8 := Nat.lt_succ_of_le (near_le _ _ _)
  exact (levelA8_apply v _ b n _ hk (index1_apply x v b n)).trans (padded_of_lt v ⟨_, hk⟩).symm

theorem index2_apply (x : FVec Ideal S32x1024x1x5 .f32) (v : FVec Ideal S8 .f32) (b : Fin 32) (n : Fin 1024) :
    indexA8 (distA2 x v) (ix3 b n 0) = BitVec.ofNat 32 (near (x (ix4 b n 0 2)) (padded v) 7) :=
  indexA8_apply _ b n _ _ fun k => (distA2_apply x v b n k).trans (congrArg (dist _) (padded_of_lt v k).symm)

theorem level2_apply (x : FVec Ideal S32x1024x1x5 .f32) (v : FVec Ideal S8 .f32) (b : Fin 32) (n : Fin 1024) :
    levelA8 v (indexA8 (distA2 x v)) (ix3 b n 0) = padded v (near (x (ix4 b n 0 2)) (padded v) 7) := by
  have hk : near (x (ix4 b n 0 2)) (padded v) 7 < 8 := Nat.lt_succ_of_le (near_le _ _ _)
  exact (levelA8_apply v _ b n _ hk (index2_apply x v b n)).trans (padded_of_lt v ⟨_, hk⟩).symm

theorem index3_apply (x : FVec Ideal S32x1024x1x5 .f32) (v : FVec Ideal S6 .f32) (b : Fin 32) (n : Fin 1024) :
    indexA6 (distA3 x v) (ix3 b n 0) = BitVec.ofNat 32 (near (x (ix4 b n 0 3)) (padded v) 5) :=
  indexA6_apply _ b n _ _ fun k => (distA3_apply x v b n k).trans (congrArg (dist _) (padded_of_lt v k).symm)

theorem level3_apply (x : FVec Ideal S32x1024x1x5 .f32) (v : FVec Ideal S6 .f32) (b : Fin 32) (n : Fin 1024) :
    levelA6 v (indexA6 (distA3 x v)) (ix3 b n 0) = padded v (near (x (ix4 b n 0 3)) (padded v) 5) := by
  have hk : near (x (ix4 b n 0 3)) (padded v) 5 < 6 := Nat.lt_succ_of_le (near_le _ _ _)
  exact (levelA6_apply v _ b n _ hk (index3_apply x v b n)).trans (padded_of_lt v ⟨_, hk⟩).symm

theorem index4_apply (x : FVec Ideal S32x1024x1x5 .f32) (v : FVec Ideal S5 .f32) (b : Fin 32) (n : Fin 1024) :
    indexA5 (distA4 x v) (ix3 b n 0) = BitVec.ofNat 32 (near (x (ix4 b n 0 4)) (padded v) 4) :=
  indexA5_apply _ b n _ _ fun k => (distA4_apply x v b n k).trans (congrArg (dist _) (padded_of_lt v k).symm)

theorem level4_apply (x : FVec Ideal S32x1024x1x5 .f32) (v : FVec Ideal S5 .f32) (b : Fin 32) (n : Fin 1024) :
    levelA5 v (indexA5 (distA4 x v)) (ix3 b n 0) = padded v (near (x (ix4 b n 0 4)) (padded v) 4) := by
  have hk : near (x (ix4 b n 0 4)) (padded v) 4 < 5 := Nat.lt_succ_of_le (near_le _ _ _)
  exact (levelA5_apply v _ b n _ hk (index4_apply x v b n)).trans (padded_of_lt v ⟨_, hk⟩).symm

theorem stackA_0 {α : Type} (a0 a1 a2 a3 a4 : S32x1024x1.Idx → α) (b : Fin 32) (n : Fin 1024) :
    stackA a0 a1 a2 a3 a4 (ix4 b n 0 0) = a0 (ix3 b n 0) := stackA_apply a0 a1 a2 a3 a4 b n 0

theorem stackA_1 {α : Type} (a0 a1 a2 a3 a4 : S32x1024x1.Idx → α) (b : Fin 32) (n : Fin 1024) :
    stackA a0 a1 a2 a3 a4 (ix4 b n 0 1) = a1 (ix3 b n 0) := stackA_apply a0 a1 a2 a3 a4 b n 1

theorem stackA_2 {α : Type} (a0 a1 a2 a3 a4 : S32x1024x1.Idx → α) (b : Fin 32) (n : Fin 1024) :
    stackA a0 a1 a2 a3 a4 (ix4 b n 0 2) = a2 (ix3 b n 0) := stackA_apply a0 a1 a2 a3 a4 b n 2

theorem stackA_3 {α : Type} (a0 a1 a2 a3 a4 : S32x1024x1.Idx → α) (b : Fin 32) (n : Fin 1024) :
    stackA a0 a1 a2 a3 a4 (ix4 b n 0 3) = a3 (ix3 b n 0) := stackA_apply a0 a1 a2 a3 a4 b n 3

theorem stackA_4 {α : Type} (a0 a1 a2 a3 a4 : S32x1024x1.Idx → α) (b : Fin 32) (n : Fin 1024) :
    stackA a0 a1 a2 a3 a4 (ix4 b n 0 4) = a4 (ix3 b n 0) := stackA_apply a0 a1 a2 a3 a4 b n 4

theorem indicesA_apply (x : FVec Ideal S32x1024x1x5 .f32) (v0 v1 v2 : FVec Ideal S8 .f32) (v3 : FVec Ideal S6 .f32) (v4 : FVec Ideal S5 .f32)
    (b : Fin 32) (n : Fin 1024) (c : Fin 5) : indicesA x v0 v1 v2 v3 v4 (ix4 b n 0 c)
      = BitVec.ofNat 32 (near (x (ix4 b n 0 c)) (lev v0 v1 v2 v3 v4 c) (top c)) := by
  unfold indicesA
  rcases five_cases c with rfl | rfl | rfl | rfl | rfl
  · rw [show lev v0 v1 v2 v3 v4 0 = padded v0 from rfl, show top 0 = 7 from rfl]
    exact (stackA_0 _ _ _ _ _ b n).trans (index0_apply x v0 b n)
  · rw [show lev v0 v1 v2 v3 v4 1 = padded v1 from rfl, show top 1 = 7 from rfl]
    exact (stackA_1 _ _ _ _ _ b n).trans (index1_apply x v1 b n)
  · rw [show lev v0 v1 v2 v3 v4 2 = padded v2 from rfl, show top 2 = 7 from rfl]
    exact (stackA_2 _ _ _ _ _ b n).trans (index2_apply x v2 b n)
  · rw [show lev v0 v1 v2 v3 v4 3 = padded v3 from rfl, show top 3 = 5 from rfl]
    exact (stackA_3 _ _ _ _ _ b n).trans (index3_apply x v3 b n)
  · rw [show lev v0 v1 v2 v3 v4 4 = padded v4 from rfl, show top 4 = 4 from rfl]
    exact (stackA_4 _ _ _ _ _ b n).trans (index4_apply x v4 b n)

theorem levelsA_apply (x : FVec Ideal S32x1024x1x5 .f32) (v0 v1 v2 : FVec Ideal S8 .f32) (v3 : FVec Ideal S6 .f32) (v4 : FVec Ideal S5 .f32)
    (b : Fin 32) (n : Fin 1024) (c : Fin 5) : levelsA x v0 v1 v2 v3 v4 (ix4 b n 0 c)
      = lev v0 v1 v2 v3 v4 c (near (x (ix4 b n 0 c)) (lev v0 v1 v2 v3 v4 c) (top c)) := by
  unfold levelsA
  rcases five_cases c with rfl | rfl | rfl | rfl | rfl
  · rw [show lev v0 v1 v2 v3 v4 0 = padded v0 from rfl, show top 0 = 7 from rfl]
    exact (stackA_0 _ _ _ _ _ b n).trans (level0_apply x v0 b n)
  · rw [show lev v0 v1 v2 v3 v4 1 = padded v1 from rfl, show top 1 = 7 from rfl]
    exact (stackA_1 _ _ _ _ _ b n).trans (level1_apply x v1 b n)
  · rw [show lev v0 v1 v2 v3 v4 2 = padded v2 from rfl, show top 2 = 7 from rfl]
    exact (stackA_2 _ _ _ _ _ b n).trans (level2_apply x v2 b n)
  · rw [show lev v0 v1 v2 v3 v4 3 = padded v3 from rfl, show top 3 = 5 from rfl]
    exact (stackA_3 _ _ _ _ _ b n).trans (level3_apply x v3 b n)
  · rw [show lev v0 v1 v2 v3 v4 4 = padded v4 from rfl, show top 4 = 4 from rfl]
    exact (stackA_4 _ _ _ _ _ b n).trans (level4_apply x v4 b n)

end Cert.Proof.Ref

end
-- ==== Proof.Bounds.lean ====
/-
  Extended reals that are reals within a bound, what the precondition says of an element, and sums of squares.
-/
module

public import proofs.«01_k».proof.Proof.Near
public import proofs.«01_k».proof.Proof.Words
public import Mathlib.Data.EReal.Operations
public import Mathlib.Data.EReal.Inv

@[expose] public section

noncomputable section

namespace Cert.Proof

open Idealize.ShloMosaic

/-- A real of absolute value at most `B`. -/
def Within (B : ℝ) (x : EReal) : Prop := ∃ r : ℝ, |r| ≤ B ∧ x = (r : EReal)

theorem Within.add {A B : ℝ} {x y : EReal} : Within A x → Within B y → Within (A + B) (x + y) := by
  rintro ⟨r, hr, rfl⟩ ⟨s, hs, rfl⟩
  exact ⟨r + s, (abs_add_le r s).trans (add_le_add hr hs), (EReal.coe_add r s).symm⟩

theorem Within.mul {A B : ℝ} {x y : EReal} (hA : 0 ≤ A) : Within A x → Within B y → Within (A * B) (x * y) := by
  rintro ⟨r, hr, rfl⟩ ⟨s, hs, rfl⟩
  exact ⟨r * s, by rw [abs_mul]; exact mul_le_mul hr hs (abs_nonneg s) hA, (EReal.coe_mul r s).symm⟩

theorem Within.sum {ι : Type} [DecidableEq ι] (S : Finset ι) {B : ℝ} {f : ι → EReal} (h : ∀ i, Within B (f i)) :
    Within (S.card * B) (∑ i ∈ S, f i) := by
  induction S using Finset.induction_on with
  | empty => exact ⟨0, by simp, by simp⟩
  | insert a S ha ih =>
    rw [Finset.sum_insert ha, Finset.card_insert_of_notMem ha]
    have e : ((S.card + 1 : ℕ) : ℝ) * B = B + S.card * B := by push_cast; ring
    rw [e]
    exact (h a).add ih

theorem Within.mono {A B : ℝ} {x : EReal} (h : A ≤ B) : Within A x → Within B x := by
  rintro ⟨r, hr, rfl⟩
  exact ⟨r, hr.trans h, rfl⟩

/-- An absolute value under the bound, as the precondition compares them, makes the number a real within 1e13. -/
theorem within_of_le {x : EReal} (h : max x (-x) ≤ Ideal.ofBits .f32 0x551184E7#32) : Within (10 ^ 13) x := by
  rw [bound_word, max_le_iff] at h
  obtain ⟨h1, h2⟩ := h
  induction x with
  | bot => exact absurd (top_le_iff.mp (EReal.neg_bot ▸ h2)) (EReal.coe_ne_top _)
  | top => exact absurd (top_le_iff.mp h1) (EReal.coe_ne_top _)
  | coe r =>
    rw [← EReal.coe_neg] at h2
    have h1' := EReal.coe_le_coe_iff.mp h1
    have h2' := EReal.coe_le_coe_iff.mp h2
    exact ⟨r, abs_le.mpr ⟨by norm_num at *; linarith, by norm_num at *; linarith⟩, rfl⟩

theorem dist_coe (r s : ℝ) : dist (r : EReal) (s : EReal) = ((|r - s| : ℝ) : EReal) := by
  unfold dist
  rw [← EReal.coe_sub, ← EReal.coe_neg, ← EReal.coe_strictMono.monotone.map_max, abs_eq_max_neg]

/-- The filler is no nearer than a level within the bound. -/
theorem filler_far {x v : EReal} (hx : Within (10 ^ 29) x) (hv : Within (10 ^ 13) v) :
    dist x v ≤ dist x (Ideal.ofBits .f32 0x7149F2CA#32) := by
  obtain ⟨r, hr, rfl⟩ := hx
  obtain ⟨s, hs, rfl⟩ := hv
  rw [filler_word, dist_coe, dist_coe, EReal.coe_le_coe_iff]
  have hr' := abs_le.mp hr
  have hs' := abs_le.mp hs
  have h2 : (4 * 10 ^ 29 : ℝ) ≤ |r - 13234890 * 2 ^ 76| := by
    rw [abs_sub_comm]
    refine le_trans ?_ (le_abs_self _)
    norm_num at *; linarith [hr'.2]
  refine le_trans ?_ h2
  rw [abs_le]
  norm_num at *
  constructor <;> linarith [hr'.1, hr'.2, hs'.1, hs'.2]

/-- A real plus the difference to a number is the number. -/
theorem step_to (r : ℝ) (q : EReal) : (r : EReal) + (q - r) = q := by
  induction q with
  | bot => simp
  | top => simp
  | coe s => rw [← EReal.coe_sub, ← EReal.coe_add]; congr 1; ring

/-- The square of a difference from a real, either way round. -/
theorem square_swap (r : ℝ) (q : EReal) : ((r : EReal) - q) * (r - q) = (q - r) * (q - r) := by
  induction q with
  | bot => simp [EReal.top_mul_top, EReal.bot_mul_bot]
  | top => simp [EReal.top_mul_top, EReal.bot_mul_bot]
  | coe s => rw [← EReal.coe_sub, ← EReal.coe_sub, ← EReal.coe_mul, ← EReal.coe_mul]; congr 1; ring

/-- A nonnegative real goes through a sum. -/
theorem mul_sum_real {ι : Type} [DecidableEq ι] (S : Finset ι) (a : ℝ) (ha : 0 ≤ a) (f : ι → EReal) :
    ∑ i ∈ S, (a : EReal) * f i = (a : EReal) * ∑ i ∈ S, f i := by
  induction S using Finset.induction_on with
  | empty => simp
  | insert b S hb ih =>
    rw [Finset.sum_insert hb, Finset.sum_insert hb, ih,
      EReal.left_distrib_of_nonneg_of_ne_top (EReal.coe_nonneg.mpr ha) (EReal.coe_ne_top a)]

/-- Two tenths of a mean over 163840 numbers. -/
theorem two_means (s : EReal) :
    s * ((1 / 163840 : ℝ) : EReal) * ((1 / 10 : ℝ) : EReal) + s * ((1 / 163840 : ℝ) : EReal) * ((1 / 10 : ℝ) : EReal)
      = ((1 / 819200 : ℝ) : EReal) * s := by
  have e : ((1 / 163840 : ℝ) : EReal) * ((1 / 10 : ℝ) : EReal) = ((1 / 1638400 : ℝ) : EReal) := by
    rw [← EReal.coe_mul]; norm_num
  rw [mul_assoc, e, mul_comm s]
  have e2 : ((1 / 819200 : ℝ) : EReal) = ((1 / 1638400 : ℝ) : EReal) + ((1 / 1638400 : ℝ) : EReal) := by
    rw [← EReal.coe_add]; norm_num
  rw [e2, EReal.right_distrib_of_nonneg (EReal.coe_nonneg.mpr (by norm_num)) (EReal.coe_nonneg.mpr (by norm_num))]

end Cert.Proof

end
-- ==== Proof.Equation.lean ====
/-
  The two programs' results are equal: under the precondition every latent is a real, the filler levels are never taken,
  the straight-through value is the level kept, and the two means of squares make the kernel's scaled sum.
-/
module

public import proofs.«01_k».proof.Proof.KernelArray
public import proofs.«01_k».proof.Proof.RefLevels
public import proofs.«01_k».proof.Proof.Bounds
public import proofs.«01_k».proof.Defs

@[expose] public section

set_option maxRecDepth 16384

noncomputable section

namespace Cert.Proof.Equation

open Cert.KernelIdeal Cert.KernelIdeal.Gen Cert.KernelIdeal.Arrays Cert.Proof
open Idealize.ShloMosaic Idealize.ShloMosaic.TcCoe

/-- The broadcasts the precondition's function takes. -/
theorem preFacts : Cert.Pre_moderate.Facts := ⟨by decide, by decide, by decide, by decide⟩

/-- One element's comparison, as the precondition makes it. -/
theorem within_of_cmp {s : Shape} (h : (⟨0, ![]⟩ : Shape).BroadcastsInDim s (![] : Fin 0 → Fin s.rank)) (x : FVec Ideal s .f32)
    (e : cmpf .ole (Host.absf x) (broadcastInDim s ![] h (constant (F := Ideal) ⟨0, ![]⟩ .f32 0x551184E7#32)) = (fun _ => 1#1))
    (i : s.Idx) : Within (10 ^ 13) (x i) := by
  have e' := congrFun e i
  have key : BitVec.ofBool (decide (max (x i) (-(x i)) ≤ Ideal.ofBits .f32 0x551184E7#32)) = 1#1 := e'
  rw [StableHlo.Predicate.ofBool_eq_one_iff, decide_eq_true_eq] at key
  exact within_of_le key

section Values

variable (m : (ℓ : Loc nD τ sig) → Buf (Elt Ideal) ℓ) (c : Dev nD)

/-- What the precondition gives. -/
structure Moderate : Prop where
  z : ∀ i, Within (10 ^ 13) ((m ((c : Thread nD τ).loc main_arg0) : FVec Ideal S32x768x32x32 .f32) i)
  w : ∀ i, Within (10 ^ 13) ((m ((c : Thread nD τ).loc main_arg1) : FVec Ideal S768x5 .f32) i)
  b : ∀ i, Within (10 ^ 13) ((m ((c : Thread nD τ).loc main_arg2) : FVec Ideal S5 .f32) i)
  v3 : ∀ i, Within (10 ^ 13) ((m ((c : Thread nD τ).loc main_arg8) : FVec Ideal S6 .f32) i)
  v4 : ∀ i, Within (10 ^ 13) ((m ((c : Thread nD τ).loc main_arg9) : FVec Ideal S5 .f32) i)

variable {m} in
theorem moderate_of_pre (h : Cert.Pre_KernelIdeal_moderate (hPre_moderate := preFacts) m) : Moderate m c := by
  obtain ⟨h0, h1, h2, h3, h4⟩ := h c
  exact ⟨within_of_cmp _ _ h0, within_of_cmp _ _ h1, within_of_cmp _ _ h2, within_of_cmp _ _ h3, within_of_cmp _ _ h4⟩

variable {m c} (hm : Moderate m c)
include hm

theorem lat_within (b : Fin 32) (n : Fin 1024) (r : Fin 5) : Within (10 ^ 29) (latK m c b n r) := by
  unfold latK Ref.lat
  refine Within.mono ?_ ((Within.sum Finset.univ fun k => Within.mul (by norm_num) (hm.z _) (hm.w _)).add (hm.b _))
  rw [Finset.card_univ, Fintype.card_fin]
  norm_num

theorem lat_real (b : Fin 32) (n : Fin 1024) (r : Fin 5) : ∃ x : ℝ, latK m c b n r = (x : EReal) := by
  obtain ⟨x, _, e⟩ := lat_within hm b n r
  exact ⟨x, e⟩

/-- The fillers do not change the index. -/
theorem code_top (b : Fin 32) (n : Fin 1024) (r : Fin 5) :
    codeK m c b n r = near (latK m c b n r) (levK m c r) (top r) := by
  unfold codeK
  rcases five_cases r with rfl | rfl | rfl | rfl | rfl
  · rfl
  · rfl
  · rfl
  · refine near_pad _ _ 5 7 (by omega) fun k h _ => ?_
    have e0 : levK m c 3 0 = _ := padded_of_lt (m ((c : Thread nD τ).loc main_arg8) : FVec Ideal S6 .f32) 0
    have ek : levK m c 3 k = Ideal.ofBits .f32 0x7149F2CA#32 := dif_neg (by omega)
    rw [e0, ek]
    exact filler_far (lat_within hm b n 3) (hm.v3 _)
  · refine near_pad _ _ 4 7 (by omega) fun k h _ => ?_
    have e0 : levK m c 4 0 = _ := padded_of_lt (m ((c : Thread nD τ).loc main_arg9) : FVec Ideal S5 .f32) 0
    have ek : levK m c 4 k = Ideal.ofBits .f32 0x7149F2CA#32 := dif_neg (by omega)
    rw [e0, ek]
    exact filler_far (lat_within hm b n 4) (hm.v4 _)

end Values

section Reference

variable {m : (ℓ : Loc nD τ sig) → Buf (Elt Ideal) ℓ} {c : Dev nD} (hm : Moderate m c)

variable (m c) in
/-- The reference's latents, levels and straight-through values of the kernel's arguments. -/
def refLat : FVec Ideal Cert.ReferenceIdeal.S32x1024x1x5 .f32 :=
  Ref.latA (m ((c : Thread nD τ).loc main_arg0)) (m ((c : Thread nD τ).loc main_arg1)) (m ((c : Thread nD τ).loc main_arg2))

variable (m c) in
def refSte : FVec Ideal Cert.ReferenceIdeal.S32x1024x1x5 .f32 :=
  Ref.steA (refLat m c) (Ref.levelsA (refLat m c) (m ((c : Thread nD τ).loc main_arg5)) (m ((c : Thread nD τ).loc main_arg6))
    (m ((c : Thread nD τ).loc main_arg7)) (m ((c : Thread nD τ).loc main_arg8)) (m ((c : Thread nD τ).loc main_arg9)))

variable (m c) in
def refCode : IVec Cert.ReferenceIdeal.S32x1024x1x5 32 :=
  Ref.indicesA (refLat m c) (m ((c : Thread nD τ).loc main_arg5)) (m ((c : Thread nD τ).loc main_arg6))
    (m ((c : Thread nD τ).loc main_arg7)) (m ((c : Thread nD τ).loc main_arg8)) (m ((c : Thread nD τ).loc main_arg9))

theorem refLat_apply (b : Fin 32) (n : Fin 1024) (r : Fin 5) : refLat m c (ix4 b n 0 r) = latK m c b n r :=
  Ref.latA_apply _ _ _ b n r

include hm in
theorem refCode_apply (b : Fin 32) (n : Fin 1024) (r : Fin 5) :
    refCode m c (ix4 b n 0 r) = BitVec.ofNat 32 (codeK m c b n r) := by
  unfold refCode
  rw [Ref.indicesA_apply, refLat_apply, code_top hm]
  rfl

include hm in
theorem refSte_apply (b : Fin 32) (n : Fin 1024) (r : Fin 5) : refSte m c (ix4 b n 0 r) = keptK m c b n r := by
  have e : Ref.levelsA (refLat m c) (m ((c : Thread nD τ).loc main_arg5)) (m ((c : Thread nD τ).loc main_arg6))
      (m ((c : Thread nD τ).loc main_arg7)) (m ((c : Thread nD τ).loc main_arg8)) (m ((c : Thread nD τ).loc main_arg9)) (ix4 b n 0 r)
      = keptK m c b n r := by
    unfold keptK
    rw [Ref.levelsA_apply, refLat_apply, code_top hm]
    rfl
  obtain ⟨x, hx⟩ := lat_real hm b n r
  have s : refSte m c (ix4 b n 0 r) = latK m c b n r + (keptK m c b n r - latK m c b n r) := by
    rw [← e, ← refLat_apply]
    rfl
  rw [s, hx, step_to]

include hm in
theorem out_eq : Ref.outA (refSte m c) (m ((c : Thread nD τ).loc main_arg3)) (m ((c : Thread nD τ).loc main_arg4))
    = shapeCast S32x768x32x32 (outArr m c) shapeCasts_S32x768x1024_S32x768x32x32 := by
  funext y
  idx_vars y
  rw [Ref.outA_apply]
  refine Eq.trans ?_ (out_shape_apply _ y0 y1 y2 y3).symm
  unfold outArr
  refine Ideal.add_congr (Finset.sum_congr rfl fun r _ => ?_) rfl
  rw [refSte_apply hm]
  exact mul_comm _ _

include hm in
theorem code_eq : Ref.codesA (refCode m c)
    = shapeCast S32x32x32x5 (transpose S32x1024x5 [0, 2, 1] (codeArr m c) transposes_S32x5x1024_S32x1024x5_0_2_1)
        shapeCasts_S32x1024x5_S32x32x32x5 := by
  funext y
  idx_vars y
  rw [Ref.codesA_apply, refCode_apply hm]
  exact (code_shape_apply (codeArr m c) y0 y1 y2 y3).symm

/-- All the squares, in the reference's order. -/
theorem sum_all (f : Fin 32 → Fin 1024 → Fin 5 → EReal) (d : Cert.ReferenceIdeal.S32x1024x1x5.Idx → EReal)
    (h : ∀ b n r, d (ix4 b n 0 r) = f b n r) : ∑ i, d i = ∑ b, ∑ n, ∑ r, f b n r := by
  rw [sum_idx4]
  refine Finset.sum_congr rfl fun b _ => Finset.sum_congr rfl fun n _ => ?_
  rw [Fin.sum_univ_one]
  exact Finset.sum_congr rfl fun r _ => h b n r

/-- All the squares, in the kernel's order. -/
theorem sum_groups (f : Fin 32 → Fin 1024 → Fin 5 → EReal) :
    ∑ p : Fin 8, ∑ s : Fin 4, ∑ r : Fin 5, ∑ n : Fin 1024, f (group p s) n r = ∑ b, ∑ n, ∑ r, f b n r := by
  rw [Fin.sum_univ_tiles 8 4 rfl]
  refine Finset.sum_congr rfl fun p _ => Finset.sum_congr rfl fun s _ => ?_
  rw [Finset.sum_comm]
  rfl

include hm in
theorem loss_eq : Ref.lossA (refLat m c) (refSte m c)
    = Host.reduceAdd (lossArr m c) (constant S_ .f32 0x00000000#32) reducesTo_S8x1x1_S_d0_1_2 h_S_ := by
  funext j
  have one : ∀ b n r, (subf (refLat m c) (refSte m c)) (ix4 b n 0 r) * (subf (refLat m c) (refSte m c)) (ix4 b n 0 r)
      = sqK m c b n r := fun b n r => by
    obtain ⟨x, hx⟩ := lat_real hm b n r
    show (refLat m c (ix4 b n 0 r) - refSte m c (ix4 b n 0 r)) * (refLat m c (ix4 b n 0 r) - refSte m c (ix4 b n 0 r)) = _
    unfold sqK
    rw [refLat_apply, refSte_apply hm, hx, square_swap]
  have two : ∀ b n r, (subf (refSte m c) (refLat m c)) (ix4 b n 0 r) * (subf (refSte m c) (refLat m c)) (ix4 b n 0 r)
      = sqK m c b n r := fun b n r => by
    show (refSte m c (ix4 b n 0 r) - refLat m c (ix4 b n 0 r)) * (refSte m c (ix4 b n 0 r) - refLat m c (ix4 b n 0 r)) = _
    unfold sqK
    rw [refLat_apply, refSte_apply hm]
  rw [loss_sum_apply]
  show Ref.meanA (subf (refLat m c) (refSte m c)) j + Ref.meanA (subf (refSte m c) (refLat m c)) j = _
  rw [Ref.meanA_apply, Ref.meanA_apply, sum_all _ _ one, sum_all _ _ two, two_means, ← sum_groups]
  unfold lossArr
  exact (mul_sum_real Finset.univ _ (by norm_num) _).symm

end Reference

end Cert.Proof.Equation

end
-- ==== Proof.lean ====
/-
  The proof of `Cert.Claim`: the frames from the two kernels' runs and the reference's, the named constant from its rule,
  and the algebraic claim from the two runs' values and their equality.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.Equation

@[expose] public section

set_option maxRecDepth 16384

noncomputable section

namespace Cert.Proof

open Idealize.ShloMosaic Idealize.ShloMosaic.TcCoe Idealize.SL.Sem Idealize.ShloMosaic.StableHlo

/-- The arrays of the kernel's run are the three arrays. -/
theorem kernel_arrays (m : (ℓ : Loc Cert.KernelIdeal.nD Cert.KernelIdeal.τ Cert.KernelIdeal.sig) → Buf (Elt Ideal) ℓ)
    (c : Dev Cert.KernelIdeal.nD) :
    Cert.KernelIdeal.Value.reg_main_v14_0 m c = Cert.KernelIdeal.Arrays.outArr m c
    ∧ Cert.KernelIdeal.Value.reg_main_v14_1 m c = Cert.KernelIdeal.Arrays.codeArr m c
    ∧ Cert.KernelIdeal.Value.reg_main_v14_2 m c = Cert.KernelIdeal.Arrays.lossArr m c :=
  ⟨Cert.KernelIdeal.Arrays.final6 m c, Cert.KernelIdeal.Arrays.final7 m c, Cert.KernelIdeal.Arrays.final8 m c⟩

/-- The reference's frame. -/
theorem reference_frame : Cert.quiescent_ReferenceIdeal (hReferenceIdeal := Cert.ReferenceIdeal.Gen.facts) := fun m ρ _ =>
  (θ_run _ _ _).mono (fun _ h => ⟨fun c => (h.1 c).2.2.2, h.2⟩) (Ref.run m ρ)

/-- Under the precondition the two programs end with equal results. -/
theorem algebraic : Cert.algebraic_KernelIdeal_ReferenceIdeal_pre_moderate (hKernelIdeal := Cert.KernelIdeal.Gen.facts)
    (hReferenceIdeal := Cert.ReferenceIdeal.Gen.facts) (hPre_moderate := Equation.preFacts) := by
  intro m ρ m' ρ' hp ha
  refine ⟨fun c => _, fun c => _, fun c => _, Cert.KernelIdeal.Value.run m ρ, ?_⟩
  refine (θ_run _ _ _).mono (fun _ h c => ?_) (Ref.run m' ρ')
  obtain ⟨h0, h1, h2, h3⟩ := h.1 c
  have hm := Equation.moderate_of_pre c hp
  obtain ⟨k0, k1, k2⟩ := kernel_arrays m c
  obtain ⟨a0, a1, a2, a3, a4, a5, a6, a7, a8, a9⟩ := ha c
  have eL : Ref.latV (launchContents m' c) = Equation.refLat m c := by
    unfold Equation.refLat
    rw [← a0, ← a1, ← a2]
    rfl
  have eS : Ref.steV (launchContents m' c) = Equation.refSte m c := by
    unfold Equation.refSte
    rw [← eL, ← a5, ← a6, ← a7, ← a8, ← a9]
    rfl
  refine ⟨?_, ?_, ?_, h3⟩
  · rw [h0, eS, a3, a4]
    beta_reduce
    rw [k0]
    exact Equation.out_eq hm
  · rw [h1, eL, a5, a6, a7, a8, a9]
    beta_reduce
    rw [k1]
    exact Equation.code_eq hm
  · rw [h2, eL, eS]
    beta_reduce
    rw [k2]
    exact Equation.loss_eq hm

theorem claim : Cert.Claim :=
  ⟨Cert.Kernel.Gen.facts, Cert.KernelIdeal.Gen.facts, Cert.ReferenceIdeal.Gen.facts, Equation.preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "loss_scale" .f32 _ _ rfl,
    algebraic⟩

end Cert.Proof

end
